-- ==== Defs.lean ====
def Pre_Kernel [hPre_classes : Cert.Pre_classes.Facts] (m : (ℓ : Loc Cert.Kernel.nD Cert.Kernel.τ Cert.Kernel.sig) → Buf (Elt Bits) ℓ) : Prop :=
  ∀ c : Dev Cert.Kernel.nD,
    (Cert.Pre_classes.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_classes : Cert.Pre_classes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes : Cert.Pre_classes.Facts) (hPre_admissible : Cert.Pre_admissible.Facts),
    quiescent_Kernel (hKernel := hKernel) (hPre_classes := hPre_classes)
    ∧ quiescent_KernelIdeal (hKernelIdeal := hKernelIdeal) (hPre_classes := hPre_classes)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 1 := constantI S_ 1 1#1
  let main_v6 : IVec S_ 1 := (fun x v => Host.reduce IntOp.andi x v reducesTo_S8x512x512_S_d0_1_2 h_S_) main_v5 main_c_1
  let main_v7 : IVec S_ 1 := andi main_v3 main_v6
  let main_c_2 : IVec S_ 32 := constantI S_ 32 19#32
  let main_v8 : IVec S8x512x512 32 := broadcastInDim S8x512x512 ![] bcast_S_S8x512x512 main_c_2
  let main_v9 : IVec S8x512x512 1 := cmpi .slt main_arg1 main_v8
  let main_c_3 : IVec S_ 1 := constantI S_ 1 1#1
  let main_v10 : IVec S_ 1 := (fun x v => Host.reduce IntOp.andi x v reducesTo_S8x512x512_S_d0_1_2 h_S_) main_v9 main_c_3
  let main_v11 : IVec S_ 1 := andi main_v7 main_v10
  main_v11
-- ==== Pre_classes.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x19x512x512 .f32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 1 := constantI S_ 1 1#1
  let main_v2 : IVec S_ 1 := (fun x v => Host.reduce IntOp.andi x v reducesTo_S8x512x512_S_d0_1_2 h_S_) main_v1 main_c_0
  let main_c_1 : IVec S_ 32 := constantI S_ 32 19#32
  let main_v3 : IVec S8x512x512 32 := broadcastInDim S8x512x512 ![] bcast_S_S8x512x512 main_c_1
  let main_v4 : IVec S8x512x512 1 := cmpi .slt main_arg1 main_v3
  let main_c_2 : IVec S_ 1 := constantI S_ 1 1#1
  let main_v5 : IVec S_ 1 := (fun x v => Host.reduce IntOp.andi x v reducesTo_S8x512x512_S_d0_1_2 h_S_) main_v4 main_c_2
  let main_v6 : IVec S_ 1 := andi main_v2 main_v5
  main_v6
-- ==== Kernel.lean ====
abbrev S8x19x512x512 : Shape := ⟨4, ![8, 19, 512, 512]⟩
abbrev S8x512x512 : Shape := ⟨3, ![8, 512, 512]⟩
abbrev S4x512x512 : Shape := ⟨3, ![4, 512, 512]⟩
abbrev S1x19x256x512 : Shape := ⟨4, ![1, 19, 256, 512]⟩
abbrev S1x256x512 : Shape := ⟨3, ![1, 256, 512]⟩
abbrev S1x1x256x512 : Shape := ⟨4, ![1, 1, 256, 512]⟩
abbrev S256x512 : Shape := ⟨2, ![256, 512]⟩
abbrev S32x512 : Shape := ⟨2, ![32, 512]⟩
abbrev S64x512 : Shape := ⟨2, ![64, 512]⟩
abbrev S8224 : Shape := ⟨1, ![8224]⟩
abbrev S512 : Shape := ⟨1, ![512]⟩
abbrev S_ : Shape := ⟨0, ![]⟩
abbrev S16 : Shape := ⟨1, ![16]⟩
abbrev S1x64x512 : Shape := ⟨3, ![1, 64, 512]⟩
abbrev S1x16 : Shape := ⟨2, ![1, 16]⟩
abbrev S1x512 : Shape := ⟨2, ![1, 512]⟩
abbrev S1x1 : Shape := ⟨2, ![1, 1]⟩
abbrev S1x19 : Shape := ⟨2, ![1, 19]⟩
abbrev S19x19 : Shape := ⟨2, ![19, 19]⟩
abbrev S19 : Shape := ⟨1, ![19]⟩
abbrev S19x1 : Shape := ⟨2, ![19, 1]⟩
abbrev S1x19x1 : Shape := ⟨3, ![1, 19, 1]⟩
abbrev S1 : Shape := ⟨1, ![1]⟩
abbrev S1x1x1 : Shape := ⟨3, ![1, 1, 1]⟩

abbrev nBuf : Table → Nat
  | .hbm => 10
  | .local .tc .vmem => 16
  | .local .scVector .vmem => 6
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S4x512x512, .i32⟩
  | .hbm, ⟨3, _⟩ => ⟨S4x512x512, .i32⟩
  | .hbm, ⟨4, _⟩ => ⟨S32x512, .f32⟩
  | .hbm, ⟨5, _⟩ => ⟨S32x512, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .local .tc .vmem, ⟨0, _⟩ => ⟨S1x19x256x512, .f32⟩
  | .local .tc .vmem, ⟨1, _⟩ => ⟨S1x19x256x512, .f32⟩
  | .local .tc .vmem, ⟨2, _⟩ => ⟨S1x256x512, .i32⟩
  | .local .tc .vmem, ⟨3, _⟩ => ⟨S1x256x512, .i32⟩
  | .local .tc .vmem, ⟨4, _⟩ => ⟨S1x256x512, .i32⟩
  | .local .tc .vmem, ⟨5, _⟩ => ⟨S1x256x512, .i32⟩
  | .local .tc .vmem, ⟨6, _⟩ => ⟨S1x19x256x512, .f32⟩
  | .local .tc .vmem, ⟨7, _⟩ => ⟨S1x19x256x512, .f32⟩
  | .local .tc .vmem, ⟨8, _⟩ => ⟨S1x256x512, .i32⟩
  | .local .tc .vmem, ⟨9, _⟩ => ⟨S1x256x512, .i32⟩
  | .local .tc .vmem, ⟨10, _⟩ => ⟨S1x256x512, .i32⟩
  | .local .tc .vmem, ⟨11, _⟩ => ⟨S1x256x512, .i32⟩
  | .local .tc .vmem, ⟨12, _⟩ => ⟨S32x512, .f32⟩
  | .local .tc .vmem, ⟨13, _⟩ => ⟨S32x512, .f32⟩
  | .local .tc .vmem, ⟨14, _⟩ => ⟨S1x1, .f32⟩
  | .local .tc .vmem, ⟨15, _⟩ => ⟨S1x1, .f32⟩
  | .local .scVector .vmem, ⟨0, _⟩ => ⟨S64x512, .i32⟩
  | .local .scVector .vmem, ⟨1, _⟩ => ⟨S8224, .f32⟩
  | .local .scVector .vmem, ⟨2, _⟩ => ⟨S512, .f32⟩
  | .local .scVector .vmem, ⟨3, _⟩ => ⟨S64x512, .i32⟩
  | .local .scVector .vmem, ⟨4, _⟩ => ⟨S8224, .f32⟩
  | .local .scVector .vmem, ⟨5, _⟩ => ⟨S512, .f32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 2, rfl⟩
abbrev main_v2_scv : Ref sig .scVector := ⟨.hbm, 4, rfl⟩
abbrev main_v1_scv : Ref sig .scVector := ⟨.hbm, 3, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc4_stg3_0 : Ref sig .tc := ⟨.vmem, 15, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc4_sem0_0 : DmaSem sig := 16
abbrev cc4_sem1_0 : DmaSem sig := 17
abbrev cc4_sem2_0 : DmaSem sig := 18
abbrev cc4_sem3_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x19x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v5 : BitVec 1 := Scalar.cmpi .sgt v1 c0_i32
  let v6 : BitVec 32 := Scalar.extui v5
  let c0_i32_1 : BitVec 32 := 0#32
  let v7 : BitVec 1 := Scalar.cmpi .slt v1 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v1 c8_i32
  let c0_i32_4 : BitVec 32 := 0#32
  let v17 : BitVec 1 := Scalar.cmpi .ne v16 c0_i32_4
  let v18 : BitVec 1 := Scalar.andi v15 v17
  let v4 : BitVec 32 := Scalar.divsi v1 c8_i32
  let c1_i32 : BitVec 32 := 1#32
  let v19 : BitVec 32 := Scalar.subi v4 c1_i32
  let v20 : BitVec 32 := Scalar.select v18 v19 v4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c64_i32 : BitVec 32 := 64#32
  let v31 : BitVec 32 := Scalar.muli v30 c64_i32
  let c0_i32_11 : BitVec 32 := 0#32
  ![v20.toNat, v31.toNat, 0]
@[reducible] def k2_t1_loop : Scf.Loop 32 :=
  let c0_i32_14 : BitVec 32 := 0#32
  let c514_i32 : BitVec 32 := 514#32
  let v36 : BitVec 32 := Scalar.addi c0_i32_14 c514_i32
  let c1_i32_15 : BitVec 32 := 1#32
  ⟨c0_i32_14, v36, c1_i32_15⟩
def k2_off2 (k2_t1 : Fin k2_t1_loop.trips) : Fin 1 → Nat :=
  let c0_i32_14 : BitVec 32 := 0#32
  let c1_i32_15 : BitVec 32 := 1#32
  let arg8 : BitVec 32 := Scf.iv c0_i32_14 c1_i32_15 k2_t1
  let c16_i32 : BitVec 32 := 16#32
  let v1068 : BitVec 32 := Scalar.muli arg8 c16_i32
  let v1069 : Index := Scalar.indexCast v1068
  ![v1069.toNat]
@[reducible] def k2_t2_loop : Scf.Loop 32 :=
  let c0_i32_20 : BitVec 32 := 0#32
  let c64_i32_21 : BitVec 32 := 64#32
  let v42 : BitVec 32 := Scalar.addi c0_i32_20 c64_i32_21
  let c1_i32_22 : BitVec 32 := 1#32
  ⟨c0_i32_20, v42, c1_i32_22⟩
def k2_off3 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1068 : Index := Scalar.indexCast arg8
  let c0_56 : Index := 0#32
  ![v1068.toNat, 0]

def k2_chk1 (v1069 : IVec S16 32) : Prop :=
  (∀ a x, ((![v1069] : Fin 1 → IVec S16 32) a x).toNat < S8224.size a)
theorem k2_idx1_inb : ∀ (v1069 : IVec S16 32) (k2_hw1 : k2_chk1 v1069), ∀ a x, ((![v1069] : Fin 1 → IVec S16 32) a x).toNat < S8224.size a := fun v1069 k2_hw1 => k2_hw1
def k2_off4 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1070 : Index := Scalar.indexCast arg8
  let c16_57 : Index := 16#32
  ![v1070.toNat, 16]

def k2_chk2 (v1071 : IVec S16 32) : Prop :=
  (∀ a x, ((![v1071] : Fin 1 → IVec S16 32) a x).toNat < S8224.size a)
theorem k2_idx2_inb : ∀ (v1071 : IVec S16 32) (k2_hw2 : k2_chk2 v1071), ∀ a x, ((![v1071] : Fin 1 → IVec S16 32) a x).toNat < S8224.size a := fun v1071 k2_hw2 => k2_hw2
def k2_off5 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1072 : Index := Scalar.indexCast arg8
  let c32_58 : Index := 32#32
  ![v1072.toNat, 32]

def k2_chk3 (v1073 : IVec S16 32) : Prop :=
  (∀ a x, ((![v1073] : Fin 1 → IVec S16 32) a x).toNat < S8224.size a)
theorem k2_idx3_inb : ∀ (v1073 : IVec S16 32) (k2_hw3 : k2_chk3 v1073), ∀ a x, ((![v1073] : Fin 1 → IVec S16 32) a x).toNat < S8224.size a := fun v1073 k2_hw3 => k2_hw3
def k2_off6 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1074 : Index := Scalar.indexCast arg8
  let c48_59 : Index := 48#32
  ![v1074.toNat, 48]

def k2_chk4 (v1075 : IVec S16 32) : Prop :=
  (∀ a x, ((![v1075] : Fin 1 → IVec S16 32) a x).toNat < S8224.size a)
theorem k2_idx4_inb : ∀ (v1075 : IVec S16 32) (k2_hw4 : k2_chk4 v1075), ∀ a x, ((![v1075] : Fin 1 → IVec S16 32) a x).toNat < S8224.size a := fun v1075 k2_hw4 => k2_hw4
def k2_off7 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1076 : Index := Scalar.indexCast arg8
  let c64_60 : Index := 64#32
  ![v1076.toNat, 64]

def k2_chk5 (v1077 : IVec S16 32) : Prop :=
  (∀ a x, ((![v1077] : Fin 1 → IVec S16 32) a x).toNat < S8224.size a)
theorem k2_idx5_inb : ∀ (v1077 : IVec S16 32) (k2_hw5 : k2_chk5 v1077), ∀ a x, ((![v1077] : Fin 1 → IVec S16 32) a x).toNat < S8224.size a := fun v1077 k2_hw5 => k2_hw5
def k2_off8 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1078 : Index := Scalar.indexCast arg8
  let c80_61 : Index := 80#32
  ![v1078.toNat, 80]

def k2_chk6 (v1079 : IVec S16 32) : Prop :=
  (∀ a x, ((![v1079] : Fin 1 → IVec S16 32) a x).toNat < S8224.size a)
theorem k2_idx6_inb : ∀ (v1079 : IVec S16 32) (k2_hw6 : k2_chk6 v1079), ∀ a x, ((![v1079] : Fin 1 → IVec S16 32) a x).toNat < S8224.size a := fun v1079 k2_hw6 => k2_hw6
def k2_off9 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1080 : Index := Scalar.indexCast arg8
  let c96_62 : Index := 96#32
  ![v1080.toNat, 96]

def k2_chk7 (v1081 : IVec S16 32) : Prop :=
  (∀ a x, ((![v1081] : Fin 1 → IVec S16 32) a x).toNat < S8224.size a)
theorem k2_idx7_inb : ∀ (v1081 : IVec S16 32) (k2_hw7 : k2_chk7 v1081), ∀ a x, ((![v1081] : Fin 1 → IVec S16 32) a x).toNat < S8224.size a := fun v1081 k2_hw7 => k2_hw7
def k2_off10 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1082 : Index := Scalar.indexCast arg8
  let c112_63 : Index := 112#32
  ![v1082.toNat, 112]

def k2_chk8 (v1083 : IVec S16 32) : Prop :=
  (∀ a x, ((![v1083] : Fin 1 → IVec S16 32) a x).toNat < S8224.size a)
theorem k2_idx8_inb : ∀ (v1083 : IVec S16 32) (k2_hw8 : k2_chk8 v1083), ∀ a x, ((![v1083] : Fin 1 → IVec S16 32) a x).toNat < S8224.size a := fun v1083 k2_hw8 => k2_hw8
def k2_off11 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1084 : Index := Scalar.indexCast arg8
  let c128_64 : Index := 128#32
  ![v1084.toNat, 128]

def k2_chk9 (v1085 : IVec S16 32) : Prop :=
  (∀ a x, ((![v1085] : Fin 1 → IVec S16 32) a x).toNat < S8224.size a)
theorem k2_idx9_inb : ∀ (v1085 : IVec S16 32) (k2_hw9 : k2_chk9 v1085), ∀ a x, ((![v1085] : Fin 1 → IVec S16 32) a x).toNat < S8224.size a := fun v1085 k2_hw9 => k2_hw9
def k2_off12 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1086 : Index := Scalar.indexCast arg8
  let c144_65 : Index := 144#32
  ![v1086.toNat, 144]

def k2_chk10 (v1087 : IVec S16 32) : Prop :=
  (∀ a x, ((![v1087] : Fin 1 → IVec S16 32) a x).toNat < S8224.size a)
theorem k2_idx10_inb : ∀ (v1087 : IVec S16 32) (k2_hw10 : k2_chk10 v1087), ∀ a x, ((![v1087] : Fin 1 → IVec S16 32) a x).toNat < S8224.size a := fun v1087 k2_hw10 => k2_hw10
def k2_off13 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1088 : Index := Scalar.indexCast arg8
  let c160_66 : Index := 160#32
  ![v1088.toNat, 160]

def k2_chk11 (v1089 : IVec S16 32) : Prop :=
  (∀ a x, ((![v1089] : Fin 1 → IVec S16 32) a x).toNat < S8224.size a)
theorem k2_idx11_inb : ∀ (v1089 : IVec S16 32) (k2_hw11 : k2_chk11 v1089), ∀ a x, ((![v1089] : Fin 1 → IVec S16 32) a x).toNat < S8224.size a := fun v1089 k2_hw11 => k2_hw11
def k2_off14 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1090 : Index := Scalar.indexCast arg8
  let c176_67 : Index := 176#32
  ![v1090.toNat, 176]

def k2_chk12 (v1091 : IVec S16 32) : Prop :=
  (∀ a x, ((![v1091] : Fin 1 → IVec S16 32) a x).toNat < S8224.size a)
theorem k2_idx12_inb : ∀ (v1091 : IVec S16 32) (k2_hw12 : k2_chk12 v1091), ∀ a x, ((![v1091] : Fin 1 → IVec S16 32) a x).toNat < S8224.size a := fun v1091 k2_hw12 => k2_hw12
def k2_off15 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1092 : Index := Scalar.indexCast arg8
  let c192_68 : Index := 192#32
  ![v1092.toNat, 192]

def k2_chk13 (v1093 : IVec S16 32) : Prop :=
  (∀ a x, ((![v1093] : Fin 1 → IVec S16 32) a x).toNat < S8224.size a)
theorem k2_idx13_inb : ∀ (v1093 : IVec S16 32) (k2_hw13 : k2_chk13 v1093), ∀ a x, ((![v1093] : Fin 1 → IVec S16 32) a x).toNat < S8224.size a := fun v1093 k2_hw13 => k2_hw13
def k2_off16 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1094 : Index := Scalar.indexCast arg8
  let c208_69 : Index := 208#32
  ![v1094.toNat, 208]

def k2_chk14 (v1095 : IVec S16 32) : Prop :=
  (∀ a x, ((![v1095] : Fin 1 → IVec S16 32) a x).toNat < S8224.size a)
theorem k2_idx14_inb : ∀ (v1095 : IVec S16 32) (k2_hw14 : k2_chk14 v1095), ∀ a x, ((![v1095] : Fin 1 → IVec S16 32) a x).toNat < S8224.size a := fun v1095 k2_hw14 => k2_hw14
def k2_off17 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1096 : Index := Scalar.indexCast arg8
  let c224_70 : Index := 224#32
  ![v1096.toNat, 224]

def k2_chk15 (v1097 : IVec S16 32) : Prop :=
  (∀ a x, ((![v1097] : Fin 1 → IVec S16 32) a x).toNat < S8224.size a)
theorem k2_idx15_inb : ∀ (v1097 : IVec S16 32) (k2_hw15 : k2_chk15 v1097), ∀ a x, ((![v1097] : Fin 1 → IVec S16 32) a x).toNat < S8224.size a := fun v1097 k2_hw15 => k2_hw15
def k2_off18 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1098 : Index := Scalar.indexCast arg8
  let c240_71 : Index := 240#32
  ![v1098.toNat, 240]

def k2_chk16 (v1099 : IVec S16 32) : Prop :=
  (∀ a x, ((![v1099] : Fin 1 → IVec S16 32) a x).toNat < S8224.size a)
theorem k2_idx16_inb : ∀ (v1099 : IVec S16 32) (k2_hw16 : k2_chk16 v1099), ∀ a x, ((![v1099] : Fin 1 → IVec S16 32) a x).toNat < S8224.size a := fun v1099 k2_hw16 => k2_hw16
def k2_off19 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1100 : Index := Scalar.indexCast arg8
  let c256_72 : Index := 256#32
  ![v1100.toNat, 256]

def k2_chk17 (v1101 : IVec S16 32) : Prop :=
  (∀ a x, ((![v1101] : Fin 1 → IVec S16 32) a x).toNat < S8224.size a)
theorem k2_idx17_inb : ∀ (v1101 : IVec S16 32) (k2_hw17 : k2_chk17 v1101), ∀ a x, ((![v1101] : Fin 1 → IVec S16 32) a x).toNat < S8224.size a := fun v1101 k2_hw17 => k2_hw17
def k2_off20 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1102 : Index := Scalar.indexCast arg8
  let c272_73 : Index := 272#32
  ![v1102.toNat, 272]

def k2_chk18 (v1103 : IVec S16 32) : Prop :=
  (∀ a x, ((![v1103] : Fin 1 → IVec S16 32) a x).toNat < S8224.size a)
theorem k2_idx18_inb : ∀ (v1103 : IVec S16 32) (k2_hw18 : k2_chk18 v1103), ∀ a x, ((![v1103] : Fin 1 → IVec S16 32) a x).toNat < S8224.size a := fun v1103 k2_hw18 => k2_hw18
def k2_off21 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1104 : Index := Scalar.indexCast arg8
  let c288_74 : Index := 288#32
  ![v1104.toNat, 288]

def k2_chk19 (v1105 : IVec S16 32) : Prop :=
  (∀ a x, ((![v1105] : Fin 1 → IVec S16 32) a x).toNat < S8224.size a)
theorem k2_idx19_inb : ∀ (v1105 : IVec S16 32) (k2_hw19 : k2_chk19 v1105), ∀ a x, ((![v1105] : Fin 1 → IVec S16 32) a x).toNat < S8224.size a := fun v1105 k2_hw19 => k2_hw19
def k2_off22 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1106 : Index := Scalar.indexCast arg8
  let c304_75 : Index := 304#32
  ![v1106.toNat, 304]

def k2_chk20 (v1107 : IVec S16 32) : Prop :=
  (∀ a x, ((![v1107] : Fin 1 → IVec S16 32) a x).toNat < S8224.size a)
theorem k2_idx20_inb : ∀ (v1107 : IVec S16 32) (k2_hw20 : k2_chk20 v1107), ∀ a x, ((![v1107] : Fin 1 → IVec S16 32) a x).toNat < S8224.size a := fun v1107 k2_hw20 => k2_hw20
def k2_off23 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1108 : Index := Scalar.indexCast arg8
  let c320_76 : Index := 320#32
  ![v1108.toNat, 320]

def k2_chk21 (v1109 : IVec S16 32) : Prop :=
  (∀ a x, ((![v1109] : Fin 1 → IVec S16 32) a x).toNat < S8224.size a)
theorem k2_idx21_inb : ∀ (v1109 : IVec S16 32) (k2_hw21 : k2_chk21 v1109), ∀ a x, ((![v1109] : Fin 1 → IVec S16 32) a x).toNat < S8224.size a := fun v1109 k2_hw21 => k2_hw21
def k2_off24 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1110 : Index := Scalar.indexCast arg8
  let c336_77 : Index := 336#32
  ![v1110.toNat, 336]

def k2_chk22 (v1111 : IVec S16 32) : Prop :=
  (∀ a x, ((![v1111] : Fin 1 → IVec S16 32) a x).toNat < S8224.size a)
theorem k2_idx22_inb : ∀ (v1111 : IVec S16 32) (k2_hw22 : k2_chk22 v1111), ∀ a x, ((![v1111] : Fin 1 → IVec S16 32) a x).toNat < S8224.size a := fun v1111 k2_hw22 => k2_hw22
def k2_off25 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1112 : Index := Scalar.indexCast arg8
  let c352_78 : Index := 352#32
  ![v1112.toNat, 352]

def k2_chk23 (v1113 : IVec S16 32) : Prop :=
  (∀ a x, ((![v1113] : Fin 1 → IVec S16 32) a x).toNat < S8224.size a)
theorem k2_idx23_inb : ∀ (v1113 : IVec S16 32) (k2_hw23 : k2_chk23 v1113), ∀ a x, ((![v1113] : Fin 1 → IVec S16 32) a x).toNat < S8224.size a := fun v1113 k2_hw23 => k2_hw23
def k2_off26 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1114 : Index := Scalar.indexCast arg8
  let c368_79 : Index := 368#32
  ![v1114.toNat, 368]

def k2_chk24 (v1115 : IVec S16 32) : Prop :=
  (∀ a x, ((![v1115] : Fin 1 → IVec S16 32) a x).toNat < S8224.size a)
theorem k2_idx24_inb : ∀ (v1115 : IVec S16 32) (k2_hw24 : k2_chk24 v1115), ∀ a x, ((![v1115] : Fin 1 → IVec S16 32) a x).toNat < S8224.size a := fun v1115 k2_hw24 => k2_hw24
def k2_off27 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1116 : Index := Scalar.indexCast arg8
  let c384_80 : Index := 384#32
  ![v1116.toNat, 384]

def k2_chk25 (v1117 : IVec S16 32) : Prop :=
  (∀ a x, ((![v1117] : Fin 1 → IVec S16 32) a x).toNat < S8224.size a)
theorem k2_idx25_inb : ∀ (v1117 : IVec S16 32) (k2_hw25 : k2_chk25 v1117), ∀ a x, ((![v1117] : Fin 1 → IVec S16 32) a x).toNat < S8224.size a := fun v1117 k2_hw25 => k2_hw25
def k2_off28 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1118 : Index := Scalar.indexCast arg8
  let c400_81 : Index := 400#32
  ![v1118.toNat, 400]

def k2_chk26 (v1119 : IVec S16 32) : Prop :=
  (∀ a x, ((![v1119] : Fin 1 → IVec S16 32) a x).toNat < S8224.size a)
theorem k2_idx26_inb : ∀ (v1119 : IVec S16 32) (k2_hw26 : k2_chk26 v1119), ∀ a x, ((![v1119] : Fin 1 → IVec S16 32) a x).toNat < S8224.size a := fun v1119 k2_hw26 => k2_hw26
def k2_off29 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1120 : Index := Scalar.indexCast arg8
  let c416_82 : Index := 416#32
  ![v1120.toNat, 416]

def k2_chk27 (v1121 : IVec S16 32) : Prop :=
  (∀ a x, ((![v1121] : Fin 1 → IVec S16 32) a x).toNat < S8224.size a)
theorem k2_idx27_inb : ∀ (v1121 : IVec S16 32) (k2_hw27 : k2_chk27 v1121), ∀ a x, ((![v1121] : Fin 1 → IVec S16 32) a x).toNat < S8224.size a := fun v1121 k2_hw27 => k2_hw27
def k2_off30 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1122 : Index := Scalar.indexCast arg8
  let c432_83 : Index := 432#32
  ![v1122.toNat, 432]

def k2_chk28 (v1123 : IVec S16 32) : Prop :=
  (∀ a x, ((![v1123] : Fin 1 → IVec S16 32) a x).toNat < S8224.size a)
theorem k2_idx28_inb : ∀ (v1123 : IVec S16 32) (k2_hw28 : k2_chk28 v1123), ∀ a x, ((![v1123] : Fin 1 → IVec S16 32) a x).toNat < S8224.size a := fun v1123 k2_hw28 => k2_hw28
def k2_off31 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1124 : Index := Scalar.indexCast arg8
  let c448_84 : Index := 448#32
  ![v1124.toNat, 448]

def k2_chk29 (v1125 : IVec S16 32) : Prop :=
  (∀ a x, ((![v1125] : Fin 1 → IVec S16 32) a x).toNat < S8224.size a)
theorem k2_idx29_inb : ∀ (v1125 : IVec S16 32) (k2_hw29 : k2_chk29 v1125), ∀ a x, ((![v1125] : Fin 1 → IVec S16 32) a x).toNat < S8224.size a := fun v1125 k2_hw29 => k2_hw29
def k2_off32 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1126 : Index := Scalar.indexCast arg8
  let c464_85 : Index := 464#32
  ![v1126.toNat, 464]

def k2_chk30 (v1127 : IVec S16 32) : Prop :=
  (∀ a x, ((![v1127] : Fin 1 → IVec S16 32) a x).toNat < S8224.size a)
theorem k2_idx30_inb : ∀ (v1127 : IVec S16 32) (k2_hw30 : k2_chk30 v1127), ∀ a x, ((![v1127] : Fin 1 → IVec S16 32) a x).toNat < S8224.size a := fun v1127 k2_hw30 => k2_hw30
def k2_off33 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1128 : Index := Scalar.indexCast arg8
  let c480_86 : Index := 480#32
  ![v1128.toNat, 480]

def k2_chk31 (v1129 : IVec S16 32) : Prop :=
  (∀ a x, ((![v1129] : Fin 1 → IVec S16 32) a x).toNat < S8224.size a)
theorem k2_idx31_inb : ∀ (v1129 : IVec S16 32) (k2_hw31 : k2_chk31 v1129), ∀ a x, ((![v1129] : Fin 1 → IVec S16 32) a x).toNat < S8224.size a := fun v1129 k2_hw31 => k2_hw31
def k2_off34 (k2_t2 : Fin k2_t2_loop.trips) : Fin 2 → Nat :=
  let c0_i32_20 : BitVec 32 := 0#32
  let c1_i32_22 : BitVec 32 := 1#32
  let arg8 : BitVec 32 := Scf.iv c0_i32_20 c1_i32_22 k2_t2
  let v1130 : Index := Scalar.indexCast arg8
  let c496_87 : Index := 496#32
  ![v1130.toNat, 496]

def k2_chk32 (v1131 : IVec S16 32) : Prop :=
  (∀ a x, ((![v1131] : Fin 1 → IVec S16 32) a x).toNat < S8224.size a)
theorem k2_idx32_inb : ∀ (v1131 : IVec S16 32) (k2_hw32 : k2_chk32 v1131), ∀ a x, ((![v1131] : Fin 1 → IVec S16 32) a x).toNat < S8224.size a := fun v1131 k2_hw32 => k2_hw32
def k2_off35 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_56_r0 : BitVec 32 := 0#32
  ![v1.toNat, 0]
abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v5 : BitVec 1 := Scalar.cmpi .sgt v1 c0_i32
  let v6 : BitVec 32 := Scalar.extui v5
  let c0_i32_1 : BitVec 32 := 0#32
  let v7 : BitVec 1 := Scalar.cmpi .slt v1 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v1 c8_i32
  let c0_i32_4 : BitVec 32 := 0#32
  let v17 : BitVec 1 := Scalar.cmpi .ne v16 c0_i32_4
  let v18 : BitVec 1 := Scalar.andi v15 v17
  let v4 : BitVec 32 := Scalar.divsi v1 c8_i32
  let c1_i32 : BitVec 32 := 1#32
  let v19 : BitVec 32 := Scalar.subi v4 c1_i32
  let v20 : BitVec 32 := Scalar.select v18 v19 v4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c64_i32 : BitVec 32 := 64#32
  let v31 : BitVec 32 := Scalar.muli v30 c64_i32
  let c0_i32_11 : BitVec 32 := 0#32
  ![v20.toNat, v31.toNat, 0]
@[reducible] def k3_t1_loop : Scf.Loop 32 :=
  let c0_i32_14 : BitVec 32 := 0#32
  let c514_i32 : BitVec 32 := 514#32
  let v36 : BitVec 32 := Scalar.addi c0_i32_14 c514_i32
  let c1_i32_15 : BitVec 32 := 1#32
  ⟨c0_i32_14, v36, c1_i32_15⟩
def k3_off2 (k3_t1 : Fin k3_t1_loop.trips) : Fin 1 → Nat :=
  let c0_i32_14 : BitVec 32 := 0#32
  let c1_i32_15 : BitVec 32 := 1#32
  let arg8 : BitVec 32 := Scf.iv c0_i32_14 c1_i32_15 k3_t1
  let c16_i32 : BitVec 32 := 16#32
  let v1068 : BitVec 32 := Scalar.muli arg8 c16_i32
  let v1069 : Index := Scalar.indexCast v1068
  ![v1069.toNat]
@[reducible] def k3_t2_loop : Scf.Loop 32 :=
  let c0_i32_20 : BitVec 32 := 0#32
  let c64_i32_21 : BitVec 32 := 64#32
  let v42 : BitVec 32 := Scalar.addi c0_i32_20 c64_i32_21
  let c1_i32_22 : BitVec 32 := 1#32
  ⟨c0_i32_20, v42, c1_i32_22⟩
def k3_off3 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1068 : Index := Scalar.indexCast arg8
  let c0_56 : Index := 0#32
  ![v1068.toNat, 0]

def k3_chk1 (v1069 : IVec S16 32) : Prop :=
  (∀ a x, ((![v1069] : Fin 1 → IVec S16 32) a x).toNat < S8224.size a)
theorem k3_idx1_inb : ∀ (v1069 : IVec S16 32) (k3_hw1 : k3_chk1 v1069), ∀ a x, ((![v1069] : Fin 1 → IVec S16 32) a x).toNat < S8224.size a := fun v1069 k3_hw1 => k3_hw1
def k3_off4 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1070 : Index := Scalar.indexCast arg8
  let c16_57 : Index := 16#32
  ![v1070.toNat, 16]

def k3_chk2 (v1071 : IVec S16 32) : Prop :=
  (∀ a x, ((![v1071] : Fin 1 → IVec S16 32) a x).toNat < S8224.size a)
theorem k3_idx2_inb : ∀ (v1071 : IVec S16 32) (k3_hw2 : k3_chk2 v1071), ∀ a x, ((![v1071] : Fin 1 → IVec S16 32) a x).toNat < S8224.size a := fun v1071 k3_hw2 => k3_hw2
def k3_off5 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1072 : Index := Scalar.indexCast arg8
  let c32_58 : Index := 32#32
  ![v1072.toNat, 32]

def k3_chk3 (v1073 : IVec S16 32) : Prop :=
  (∀ a x, ((![v1073] : Fin 1 → IVec S16 32) a x).toNat < S8224.size a)
theorem k3_idx3_inb : ∀ (v1073 : IVec S16 32) (k3_hw3 : k3_chk3 v1073), ∀ a x, ((![v1073] : Fin 1 → IVec S16 32) a x).toNat < S8224.size a := fun v1073 k3_hw3 => k3_hw3
def k3_off6 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1074 : Index := Scalar.indexCast arg8
  let c48_59 : Index := 48#32
  ![v1074.toNat, 48]

def k3_chk4 (v1075 : IVec S16 32) : Prop :=
  (∀ a x, ((![v1075] : Fin 1 → IVec S16 32) a x).toNat < S8224.size a)
theorem k3_idx4_inb : ∀ (v1075 : IVec S16 32) (k3_hw4 : k3_chk4 v1075), ∀ a x, ((![v1075] : Fin 1 → IVec S16 32) a x).toNat < S8224.size a := fun v1075 k3_hw4 => k3_hw4
def k3_off7 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1076 : Index := Scalar.indexCast arg8
  let c64_60 : Index := 64#32
  ![v1076.toNat, 64]

def k3_chk5 (v1077 : IVec S16 32) : Prop :=
  (∀ a x, ((![v1077] : Fin 1 → IVec S16 32) a x).toNat < S8224.size a)
theorem k3_idx5_inb : ∀ (v1077 : IVec S16 32) (k3_hw5 : k3_chk5 v1077), ∀ a x, ((![v1077] : Fin 1 → IVec S16 32) a x).toNat < S8224.size a := fun v1077 k3_hw5 => k3_hw5
def k3_off8 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1078 : Index := Scalar.indexCast arg8
  let c80_61 : Index := 80#32
  ![v1078.toNat, 80]

def k3_chk6 (v1079 : IVec S16 32) : Prop :=
  (∀ a x, ((![v1079] : Fin 1 → IVec S16 32) a x).toNat < S8224.size a)
theorem k3_idx6_inb : ∀ (v1079 : IVec S16 32) (k3_hw6 : k3_chk6 v1079), ∀ a x, ((![v1079] : Fin 1 → IVec S16 32) a x).toNat < S8224.size a := fun v1079 k3_hw6 => k3_hw6
def k3_off9 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1080 : Index := Scalar.indexCast arg8
  let c96_62 : Index := 96#32
  ![v1080.toNat, 96]

def k3_chk7 (v1081 : IVec S16 32) : Prop :=
  (∀ a x, ((![v1081] : Fin 1 → IVec S16 32) a x).toNat < S8224.size a)
theorem k3_idx7_inb : ∀ (v1081 : IVec S16 32) (k3_hw7 : k3_chk7 v1081), ∀ a x, ((![v1081] : Fin 1 → IVec S16 32) a x).toNat < S8224.size a := fun v1081 k3_hw7 => k3_hw7
def k3_off10 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1082 : Index := Scalar.indexCast arg8
  let c112_63 : Index := 112#32
  ![v1082.toNat, 112]

def k3_chk8 (v1083 : IVec S16 32) : Prop :=
  (∀ a x, ((![v1083] : Fin 1 → IVec S16 32) a x).toNat < S8224.size a)
theorem k3_idx8_inb : ∀ (v1083 : IVec S16 32) (k3_hw8 : k3_chk8 v1083), ∀ a x, ((![v1083] : Fin 1 → IVec S16 32) a x).toNat < S8224.size a := fun v1083 k3_hw8 => k3_hw8
def k3_off11 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1084 : Index := Scalar.indexCast arg8
  let c128_64 : Index := 128#32
  ![v1084.toNat, 128]

def k3_chk9 (v1085 : IVec S16 32) : Prop :=
  (∀ a x, ((![v1085] : Fin 1 → IVec S16 32) a x).toNat < S8224.size a)
theorem k3_idx9_inb : ∀ (v1085 : IVec S16 32) (k3_hw9 : k3_chk9 v1085), ∀ a x, ((![v1085] : Fin 1 → IVec S16 32) a x).toNat < S8224.size a := fun v1085 k3_hw9 => k3_hw9
def k3_off12 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1086 : Index := Scalar.indexCast arg8
  let c144_65 : Index := 144#32
  ![v1086.toNat, 144]

def k3_chk10 (v1087 : IVec S16 32) : Prop :=
  (∀ a x, ((![v1087] : Fin 1 → IVec S16 32) a x).toNat < S8224.size a)
theorem k3_idx10_inb : ∀ (v1087 : IVec S16 32) (k3_hw10 : k3_chk10 v1087), ∀ a x, ((![v1087] : Fin 1 → IVec S16 32) a x).toNat < S8224.size a := fun v1087 k3_hw10 => k3_hw10
def k3_off13 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1088 : Index := Scalar.indexCast arg8
  let c160_66 : Index := 160#32
  ![v1088.toNat, 160]

def k3_chk11 (v1089 : IVec S16 32) : Prop :=
  (∀ a x, ((![v1089] : Fin 1 → IVec S16 32) a x).toNat < S8224.size a)
theorem k3_idx11_inb : ∀ (v1089 : IVec S16 32) (k3_hw11 : k3_chk11 v1089), ∀ a x, ((![v1089] : Fin 1 → IVec S16 32) a x).toNat < S8224.size a := fun v1089 k3_hw11 => k3_hw11
def k3_off14 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1090 : Index := Scalar.indexCast arg8
  let c176_67 : Index := 176#32
  ![v1090.toNat, 176]

def k3_chk12 (v1091 : IVec S16 32) : Prop :=
  (∀ a x, ((![v1091] : Fin 1 → IVec S16 32) a x).toNat < S8224.size a)
theorem k3_idx12_inb : ∀ (v1091 : IVec S16 32) (k3_hw12 : k3_chk12 v1091), ∀ a x, ((![v1091] : Fin 1 → IVec S16 32) a x).toNat < S8224.size a := fun v1091 k3_hw12 => k3_hw12
def k3_off15 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1092 : Index := Scalar.indexCast arg8
  let c192_68 : Index := 192#32
  ![v1092.toNat, 192]

def k3_chk13 (v1093 : IVec S16 32) : Prop :=
  (∀ a x, ((![v1093] : Fin 1 → IVec S16 32) a x).toNat < S8224.size a)
theorem k3_idx13_inb : ∀ (v1093 : IVec S16 32) (k3_hw13 : k3_chk13 v1093), ∀ a x, ((![v1093] : Fin 1 → IVec S16 32) a x).toNat < S8224.size a := fun v1093 k3_hw13 => k3_hw13
def k3_off16 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1094 : Index := Scalar.indexCast arg8
  let c208_69 : Index := 208#32
  ![v1094.toNat, 208]

def k3_chk14 (v1095 : IVec S16 32) : Prop :=
  (∀ a x, ((![v1095] : Fin 1 → IVec S16 32) a x).toNat < S8224.size a)
theorem k3_idx14_inb : ∀ (v1095 : IVec S16 32) (k3_hw14 : k3_chk14 v1095), ∀ a x, ((![v1095] : Fin 1 → IVec S16 32) a x).toNat < S8224.size a := fun v1095 k3_hw14 => k3_hw14
def k3_off17 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1096 : Index := Scalar.indexCast arg8
  let c224_70 : Index := 224#32
  ![v1096.toNat, 224]

def k3_chk15 (v1097 : IVec S16 32) : Prop :=
  (∀ a x, ((![v1097] : Fin 1 → IVec S16 32) a x).toNat < S8224.size a)
theorem k3_idx15_inb : ∀ (v1097 : IVec S16 32) (k3_hw15 : k3_chk15 v1097), ∀ a x, ((![v1097] : Fin 1 → IVec S16 32) a x).toNat < S8224.size a := fun v1097 k3_hw15 => k3_hw15
def k3_off18 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1098 : Index := Scalar.indexCast arg8
  let c240_71 : Index := 240#32
  ![v1098.toNat, 240]

def k3_chk16 (v1099 : IVec S16 32) : Prop :=
  (∀ a x, ((![v1099] : Fin 1 → IVec S16 32) a x).toNat < S8224.size a)
theorem k3_idx16_inb : ∀ (v1099 : IVec S16 32) (k3_hw16 : k3_chk16 v1099), ∀ a x, ((![v1099] : Fin 1 → IVec S16 32) a x).toNat < S8224.size a := fun v1099 k3_hw16 => k3_hw16
def k3_off19 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1100 : Index := Scalar.indexCast arg8
  let c256_72 : Index := 256#32
  ![v1100.toNat, 256]

def k3_chk17 (v1101 : IVec S16 32) : Prop :=
  (∀ a x, ((![v1101] : Fin 1 → IVec S16 32) a x).toNat < S8224.size a)
theorem k3_idx17_inb : ∀ (v1101 : IVec S16 32) (k3_hw17 : k3_chk17 v1101), ∀ a x, ((![v1101] : Fin 1 → IVec S16 32) a x).toNat < S8224.size a := fun v1101 k3_hw17 => k3_hw17
def k3_off20 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1102 : Index := Scalar.indexCast arg8
  let c272_73 : Index := 272#32
  ![v1102.toNat, 272]

def k3_chk18 (v1103 : IVec S16 32) : Prop :=
  (∀ a x, ((![v1103] : Fin 1 → IVec S16 32) a x).toNat < S8224.size a)
theorem k3_idx18_inb : ∀ (v1103 : IVec S16 32) (k3_hw18 : k3_chk18 v1103), ∀ a x, ((![v1103] : Fin 1 → IVec S16 32) a x).toNat < S8224.size a := fun v1103 k3_hw18 => k3_hw18
def k3_off21 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1104 : Index := Scalar.indexCast arg8
  let c288_74 : Index := 288#32
  ![v1104.toNat, 288]

def k3_chk19 (v1105 : IVec S16 32) : Prop :=
  (∀ a x, ((![v1105] : Fin 1 → IVec S16 32) a x).toNat < S8224.size a)
theorem k3_idx19_inb : ∀ (v1105 : IVec S16 32) (k3_hw19 : k3_chk19 v1105), ∀ a x, ((![v1105] : Fin 1 → IVec S16 32) a x).toNat < S8224.size a := fun v1105 k3_hw19 => k3_hw19
def k3_off22 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1106 : Index := Scalar.indexCast arg8
  let c304_75 : Index := 304#32
  ![v1106.toNat, 304]

def k3_chk20 (v1107 : IVec S16 32) : Prop :=
  (∀ a x, ((![v1107] : Fin 1 → IVec S16 32) a x).toNat < S8224.size a)
theorem k3_idx20_inb : ∀ (v1107 : IVec S16 32) (k3_hw20 : k3_chk20 v1107), ∀ a x, ((![v1107] : Fin 1 → IVec S16 32) a x).toNat < S8224.size a := fun v1107 k3_hw20 => k3_hw20
def k3_off23 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1108 : Index := Scalar.indexCast arg8
  let c320_76 : Index := 320#32
  ![v1108.toNat, 320]

def k3_chk21 (v1109 : IVec S16 32) : Prop :=
  (∀ a x, ((![v1109] : Fin 1 → IVec S16 32) a x).toNat < S8224.size a)
theorem k3_idx21_inb : ∀ (v1109 : IVec S16 32) (k3_hw21 : k3_chk21 v1109), ∀ a x, ((![v1109] : Fin 1 → IVec S16 32) a x).toNat < S8224.size a := fun v1109 k3_hw21 => k3_hw21
def k3_off24 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1110 : Index := Scalar.indexCast arg8
  let c336_77 : Index := 336#32
  ![v1110.toNat, 336]

def k3_chk22 (v1111 : IVec S16 32) : Prop :=
  (∀ a x, ((![v1111] : Fin 1 → IVec S16 32) a x).toNat < S8224.size a)
theorem k3_idx22_inb : ∀ (v1111 : IVec S16 32) (k3_hw22 : k3_chk22 v1111), ∀ a x, ((![v1111] : Fin 1 → IVec S16 32) a x).toNat < S8224.size a := fun v1111 k3_hw22 => k3_hw22
def k3_off25 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1112 : Index := Scalar.indexCast arg8
  let c352_78 : Index := 352#32
  ![v1112.toNat, 352]

def k3_chk23 (v1113 : IVec S16 32) : Prop :=
  (∀ a x, ((![v1113] : Fin 1 → IVec S16 32) a x).toNat < S8224.size a)
theorem k3_idx23_inb : ∀ (v1113 : IVec S16 32) (k3_hw23 : k3_chk23 v1113), ∀ a x, ((![v1113] : Fin 1 → IVec S16 32) a x).toNat < S8224.size a := fun v1113 k3_hw23 => k3_hw23
def k3_off26 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1114 : Index := Scalar.indexCast arg8
  let c368_79 : Index := 368#32
  ![v1114.toNat, 368]

def k3_chk24 (v1115 : IVec S16 32) : Prop :=
  (∀ a x, ((![v1115] : Fin 1 → IVec S16 32) a x).toNat < S8224.size a)
theorem k3_idx24_inb : ∀ (v1115 : IVec S16 32) (k3_hw24 : k3_chk24 v1115), ∀ a x, ((![v1115] : Fin 1 → IVec S16 32) a x).toNat < S8224.size a := fun v1115 k3_hw24 => k3_hw24
def k3_off27 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1116 : Index := Scalar.indexCast arg8
  let c384_80 : Index := 384#32
  ![v1116.toNat, 384]

def k3_chk25 (v1117 : IVec S16 32) : Prop :=
  (∀ a x, ((![v1117] : Fin 1 → IVec S16 32) a x).toNat < S8224.size a)
theorem k3_idx25_inb : ∀ (v1117 : IVec S16 32) (k3_hw25 : k3_chk25 v1117), ∀ a x, ((![v1117] : Fin 1 → IVec S16 32) a x).toNat < S8224.size a := fun v1117 k3_hw25 => k3_hw25
def k3_off28 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1118 : Index := Scalar.indexCast arg8
  let c400_81 : Index := 400#32
  ![v1118.toNat, 400]

def k3_chk26 (v1119 : IVec S16 32) : Prop :=
  (∀ a x, ((![v1119] : Fin 1 → IVec S16 32) a x).toNat < S8224.size a)
theorem k3_idx26_inb : ∀ (v1119 : IVec S16 32) (k3_hw26 : k3_chk26 v1119), ∀ a x, ((![v1119] : Fin 1 → IVec S16 32) a x).toNat < S8224.size a := fun v1119 k3_hw26 => k3_hw26
def k3_off29 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1120 : Index := Scalar.indexCast arg8
  let c416_82 : Index := 416#32
  ![v1120.toNat, 416]

def k3_chk27 (v1121 : IVec S16 32) : Prop :=
  (∀ a x, ((![v1121] : Fin 1 → IVec S16 32) a x).toNat < S8224.size a)
theorem k3_idx27_inb : ∀ (v1121 : IVec S16 32) (k3_hw27 : k3_chk27 v1121), ∀ a x, ((![v1121] : Fin 1 → IVec S16 32) a x).toNat < S8224.size a := fun v1121 k3_hw27 => k3_hw27
def k3_off30 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1122 : Index := Scalar.indexCast arg8
  let c432_83 : Index := 432#32
  ![v1122.toNat, 432]

def k3_chk28 (v1123 : IVec S16 32) : Prop :=
  (∀ a x, ((![v1123] : Fin 1 → IVec S16 32) a x).toNat < S8224.size a)
theorem k3_idx28_inb : ∀ (v1123 : IVec S16 32) (k3_hw28 : k3_chk28 v1123), ∀ a x, ((![v1123] : Fin 1 → IVec S16 32) a x).toNat < S8224.size a := fun v1123 k3_hw28 => k3_hw28
def k3_off31 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1124 : Index := Scalar.indexCast arg8
  let c448_84 : Index := 448#32
  ![v1124.toNat, 448]

def k3_chk29 (v1125 : IVec S16 32) : Prop :=
  (∀ a x, ((![v1125] : Fin 1 → IVec S16 32) a x).toNat < S8224.size a)
theorem k3_idx29_inb : ∀ (v1125 : IVec S16 32) (k3_hw29 : k3_chk29 v1125), ∀ a x, ((![v1125] : Fin 1 → IVec S16 32) a x).toNat < S8224.size a := fun v1125 k3_hw29 => k3_hw29
def k3_off32 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1126 : Index := Scalar.indexCast arg8
  let c464_85 : Index := 464#32
  ![v1126.toNat, 464]

def k3_chk30 (v1127 : IVec S16 32) : Prop :=
  (∀ a x, ((![v1127] : Fin 1 → IVec S16 32) a x).toNat < S8224.size a)
theorem k3_idx30_inb : ∀ (v1127 : IVec S16 32) (k3_hw30 : k3_chk30 v1127), ∀ a x, ((![v1127] : Fin 1 → IVec S16 32) a x).toNat < S8224.size a := fun v1127 k3_hw30 => k3_hw30
def k3_off33 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1128 : Index := Scalar.indexCast arg8
  let c480_86 : Index := 480#32
  ![v1128.toNat, 480]

def k3_chk31 (v1129 : IVec S16 32) : Prop :=
  (∀ a x, ((![v1129] : Fin 1 → IVec S16 32) a x).toNat < S8224.size a)
theorem k3_idx31_inb : ∀ (v1129 : IVec S16 32) (k3_hw31 : k3_chk31 v1129), ∀ a x, ((![v1129] : Fin 1 → IVec S16 32) a x).toNat < S8224.size a := fun v1129 k3_hw31 => k3_hw31
def k3_off34 (k3_t2 : Fin k3_t2_loop.trips) : Fin 2 → Nat :=
  let c0_i32_20 : BitVec 32 := 0#32
  let c1_i32_22 : BitVec 32 := 1#32
  let arg8 : BitVec 32 := Scf.iv c0_i32_20 c1_i32_22 k3_t2
  let v1130 : Index := Scalar.indexCast arg8
  let c496_87 : Index := 496#32
  ![v1130.toNat, 496]

def k3_chk32 (v1131 : IVec S16 32) : Prop :=
  (∀ a x, ((![v1131] : Fin 1 → IVec S16 32) a x).toNat < S8224.size a)
theorem k3_idx32_inb : ∀ (v1131 : IVec S16 32) (k3_hw32 : k3_chk32 v1131), ∀ a x, ((![v1131] : Fin 1 → IVec S16 32) a x).toNat < S8224.size a := fun v1131 k3_hw32 => k3_hw32
def k3_off35 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_56_r0 : BitVec 32 := 0#32
  ![v1.toNat, 0]
abbrev grid4 : Pipeline.Grid := .none

abbrev stage4_0 : Fin 1 → Memref sig .tc .vmem S32x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S2097152 : Shape := ⟨1, ![2097152]⟩
abbrev S361 : Shape := ⟨1, ![361]⟩
abbrev S2097152x1 : Shape := ⟨2, ![2097152, 1]⟩
abbrev S19x19 : Shape := ⟨2, ![19, 19]⟩
abbrev S19 : Shape := ⟨1, ![19]⟩

abbrev nBuf : Space → Nat
  | .hbm => 113
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x19x512x512, .f32⟩
  | .hbm, ⟨15, _⟩ => ⟨S8x19x512x512, .f32⟩
  | .hbm, ⟨16, _⟩ => ⟨S8x19x512x512, .i32⟩
  | .hbm, ⟨17, _⟩ => ⟨S_, .f32⟩
  | .hbm, ⟨18, _⟩ => ⟨S_, .i32⟩
  | .hbm, ⟨19, _⟩ => ⟨S8x512x512, .f32⟩
  | .hbm, ⟨20, _⟩ => ⟨S8x512x512, .i32⟩
  | .hbm, ⟨21, _⟩ => ⟨S_, .i32⟩
  | .hbm, ⟨22, _⟩ => ⟨S8x512x512, .i32⟩
  | .hbm, ⟨23, _⟩ => ⟨S8x512x512, .i1⟩
  | .hbm, ⟨24, _⟩ => ⟨S_, .i32⟩
  | .hbm, ⟨25, _⟩ => ⟨S8x512x512, .i32⟩
  | .hbm, ⟨26, _⟩ => ⟨S8x512x512, .i1⟩
  | .hbm, ⟨27, _⟩ => ⟨S8x512x512, .i1⟩
  | .hbm, ⟨28, _⟩ => ⟨S_, .i32⟩
  | .hbm, ⟨29, _⟩ => ⟨S8x512x512, .i32⟩
  | .hbm, ⟨30, _⟩ => ⟨S8x512x512, .i32⟩
  | .hbm, ⟨31, _⟩ => ⟨S8x512x512, .i32⟩
  | .hbm, ⟨32, _⟩ => ⟨S_, .i32⟩
  | .hbm, ⟨33, _⟩ => ⟨S_, .i32⟩
  | .hbm, ⟨34, _⟩ => ⟨S8x512x512, .i32⟩
  | .hbm, ⟨35, _⟩ => ⟨S8x512x512, .i32⟩
  | .hbm, ⟨36, _⟩ => ⟨S2097152, .i32⟩
  | .hbm, ⟨37, _⟩ => ⟨S8x512x512, .f32⟩
  | .hbm, ⟨38, _⟩ => ⟨S2097152, .f32⟩
  | .hbm, ⟨39, _⟩ => ⟨S_, .f32⟩
  | .hbm, ⟨40, _⟩ => ⟨S361, .f32⟩
  | .hbm, ⟨41, _⟩ => ⟨S_, .i32⟩
  | .hbm, ⟨42, _⟩ => ⟨S_, .i32⟩
  | .hbm, ⟨43, _⟩ => ⟨S2097152, .i32⟩
  | .hbm, ⟨44, _⟩ => ⟨S2097152, .i32⟩
  | .hbm, ⟨45, _⟩ => ⟨S_, .i32⟩
  | .hbm, ⟨46, _⟩ => ⟨S2097152, .i32⟩
  | .hbm, ⟨47, _⟩ => ⟨S2097152, .i1⟩
  | .hbm, ⟨48, _⟩ => ⟨S_, .i32⟩
  | .hbm, ⟨49, _⟩ => ⟨S2097152, .i32⟩
  | .hbm, ⟨50, _⟩ => ⟨S2097152, .i32⟩
  | .hbm, ⟨51, _⟩ => ⟨S2097152, .i32⟩
  | .hbm, ⟨52, _⟩ => ⟨S2097152x1, .i32⟩
  | .hbm, ⟨53, _⟩ => ⟨S361, .f32⟩
  | .hbm, ⟨54, _⟩ => ⟨S19x19, .f32⟩
  | .hbm, ⟨55, _⟩ => ⟨S19x19, .i32⟩
  | .hbm, ⟨56, _⟩ => ⟨S19x19, .i32⟩
  | .hbm, ⟨57, _⟩ => ⟨S_, .i32⟩
  | .hbm, ⟨58, _⟩ => ⟨S19x19, .i32⟩
  | .hbm, ⟨59, _⟩ => ⟨S19x19, .i32⟩
  | .hbm, ⟨60, _⟩ => ⟨S19x19, .i1⟩
  | .hbm, ⟨61, _⟩ => ⟨S_, .f32⟩
  | .hbm, ⟨62, _⟩ => ⟨S_, .f32⟩
  | .hbm, ⟨63, _⟩ => ⟨S19x19, .f32⟩
  | .hbm, ⟨64, _⟩ => ⟨S19x19, .f32⟩
  | .hbm, ⟨65, _⟩ => ⟨S_, .f32⟩
  | .hbm, ⟨66, _⟩ => ⟨S19, .f32⟩
  | .hbm, ⟨67, _⟩ => ⟨S_, .f32⟩
  | .hbm, ⟨68, _⟩ => ⟨S19, .f32⟩
  | .hbm, ⟨69, _⟩ => ⟨S_, .f32⟩
  | .hbm, ⟨70, _⟩ => ⟨S19, .f32⟩
  | .hbm, ⟨71, _⟩ => ⟨S19, .f32⟩
  | .hbm, ⟨72, _⟩ => ⟨S19, .f32⟩
  | .hbm, ⟨73, _⟩ => ⟨S_, .f32⟩
  | .hbm, ⟨74, _⟩ => ⟨S19, .f32⟩
  | .hbm, ⟨75, _⟩ => ⟨S19, .i1⟩
  | .hbm, ⟨76, _⟩ => ⟨S_, .f32⟩
  | .hbm, ⟨77, _⟩ => ⟨S19, .f32⟩
  | .hbm, ⟨78, _⟩ => ⟨S19, .i1⟩
  | .hbm, ⟨79, _⟩ => ⟨S_, .f32⟩
  | .hbm, ⟨80, _⟩ => ⟨S_, .f32⟩
  | .hbm, ⟨81, _⟩ => ⟨S19, .f32⟩
  | .hbm, ⟨82, _⟩ => ⟨S19, .f32⟩
  | .hbm, ⟨83, _⟩ => ⟨S19, .f32⟩
  | .hbm, ⟨84, _⟩ => ⟨S_, .f32⟩
  | .hbm, ⟨85, _⟩ => ⟨S_, .f32⟩
  | .hbm, ⟨86, _⟩ => ⟨S19, .f32⟩
  | .hbm, ⟨87, _⟩ => ⟨S19, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S19, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S19, .f32⟩
  | .hbm, ⟨102, _⟩ => ⟨S19, .f32⟩
  | .hbm, ⟨103, _⟩ => ⟨S_, .f32⟩
  | .hbm, ⟨104, _⟩ => ⟨S19, .f32⟩
  | .hbm, ⟨105, _⟩ => ⟨S19, .i1⟩
  | .hbm, ⟨106, _⟩ => ⟨S19, .f32⟩
  | .hbm, ⟨107, _⟩ => ⟨S_, .f32⟩
  | .hbm, ⟨108, _⟩ => ⟨S_, .f32⟩
  | .hbm, ⟨109, _⟩ => ⟨S19, .f32⟩
  | .hbm, ⟨110, _⟩ => ⟨S19, .f32⟩
  | .hbm, ⟨111, _⟩ => ⟨S_, .f32⟩
  | .hbm, ⟨112, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_cst_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_14 : Ref sig .tc := ⟨.hbm, 73, rfl⟩
abbrev main_v45 : Ref sig .tc := ⟨.hbm, 74, rfl⟩
abbrev main_v46 : Ref sig .tc := ⟨.hbm, 75, rfl⟩
abbrev main_cst_15 : Ref sig .tc := ⟨.hbm, 76, rfl⟩
abbrev main_v47 : Ref sig .tc := ⟨.hbm, 77, rfl⟩
abbrev main_v48 : Ref sig .tc := ⟨.hbm, 78, rfl⟩
abbrev main_cst_16 : Ref sig .tc := ⟨.hbm, 79, rfl⟩
abbrev main_call4_v0 : Ref sig .tc := ⟨.hbm, 80, rfl⟩
abbrev main_call4_v1 : Ref sig .tc := ⟨.hbm, 81, rfl⟩
abbrev main_v49 : Ref sig .tc := ⟨.hbm, 82, rfl⟩
abbrev main_v50 : Ref sig .tc := ⟨.hbm, 83, rfl⟩
abbrev main_cst_17 : Ref sig .tc := ⟨.hbm, 84, rfl⟩
abbrev main_call5_v0 : Ref sig .tc := ⟨.hbm, 85, rfl⟩
abbrev main_call5_v1 : Ref sig .tc := ⟨.hbm, 86, rfl⟩
abbrev main_v51 : Ref sig .tc := ⟨.hbm, 87, rfl⟩
abbrev main_cst_18 : Ref sig .tc := ⟨.hbm, 88, rfl⟩
abbrev main_v52 : Ref sig .tc := ⟨.hbm, 89, rfl⟩
abbrev main_cst_19 : Ref sig .tc := ⟨.hbm, 90, rfl⟩
abbrev main_v53 : Ref sig .tc := ⟨.hbm, 91, rfl⟩
abbrev main_cst_20 : Ref sig .tc := ⟨.hbm, 92, rfl⟩
abbrev main_v54 : Ref sig .tc := ⟨.hbm, 93, rfl⟩
abbrev main_cst_21 : Ref sig .tc := ⟨.hbm, 94, rfl⟩
abbrev main_v55 : Ref sig .tc := ⟨.hbm, 95, rfl⟩
abbrev main_cst_22 : Ref sig .tc := ⟨.hbm, 96, rfl⟩
abbrev main_v56 : Ref sig .tc := ⟨.hbm, 97, rfl⟩
abbrev main_cst_23 : Ref sig .tc := ⟨.hbm, 98, rfl⟩
abbrev main_call6_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_24 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_25 : Ref sig .tc := ⟨.hbm, 107, rfl⟩
abbrev main_call7_v0 : Ref sig .tc := ⟨.hbm, 108, rfl⟩
abbrev main_call7_v1 : Ref sig .tc := ⟨.hbm, 109, rfl⟩
abbrev main_v63 : Ref sig .tc := ⟨.hbm, 110, rfl⟩
abbrev main_cst_26 : Ref sig .tc := ⟨.hbm, 111, rfl⟩
abbrev main_v64 : Ref sig .tc := ⟨.hbm, 112, rfl⟩

abbrev nD : Nat := 1
abbrev τ : Topo := Topo.v7x

variable {F : FTy → Type} [FloatOps F]
-- ==== Proof.OwnRules.lean ====
/-
  Steps of a program over memrefs owned at stated contents: a load continues at the contents read, a store at contents
  that hold the stored words where it wrote and the old ones elsewhere, a scatter at the scattered contents.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Memref
public import Idealize.ShloMosaic.Lib.Transfers
public import Idealize.ShloMosaic.Lib.Tactic

@[expose] public section

noncomputable section

namespace Cert.Proof.OwnRules

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s : Shape} {e : EltTy} {α : Type} {Q : α → sProp (MT nD τ sig Ix (Elt F) Name U Lvl)}
variable {R : sProp (MT nD τ sig Ix (Elt F) Name U Lvl)}

local notation "𝕄" => MT nD τ sig Ix (Elt F) Name U Lvl

/-- A load through a rectangle of a memref owned at `X` continues at `X` read at the rectangle's indices. -/
theorem load_own {cs : CoreSpace} {m : Memref sig c.2.kind cs s e} {r : Rect s} {hl : m.view.LoadsAt r.toLoadRect}
    {k : (r.shape.Idx → Elt F e) → Prog (TpuEff nD τ sig (Elt F) Λ c.2) α} {q : PosShare TreeShare} {X : s.Idx → Elt F e}
    (h : iprop(owns c m q X ∗ R) ⊢ wp frame (wpE defs 𝒱 c bd) E (k fun x => X (r.toLoadRect.idx x)) Q) :
    iprop(owns c m q X ∗ R) ⊢ wp frame (wpE defs 𝒱 c bd) E (.op (.load m r.toLoadRect hl) k) Q := by
  unfold owns at h ⊢
  iintro ⟨⟨%f, %hf, Hf⟩, HR⟩
  iapply (wp_load 𝒱 c bd E (m := m) (r := r.toLoadRect) (S := m.view.set) (View.setOn_subset_set _ _)) $$ Hf; iintro Hf
  have hv : m.view.readAt (Elt F) r.toLoadRect f = fun x => X (r.toLoadRect.idx x) := by
    subst hf; funext x; exact View.readAt_apply _ _ x
  rw [hv]
  iapply h
  isplitl [Hf]
  · iexists f; isplitr; · ipureintro; exact hf
    iexact Hf
  · iexact HR

/-- A store through a rectangle of a memref owned at `X` continues at any contents that hold the stored words on the
    rectangle and `X` off it. -/
theorem store_own {cs : CoreSpace} {m : Memref sig c.2.kind cs s e} {r : Rect s} {w : r.shape.Idx → Elt F e}
    {hx : (m.access r).Stores Finset.univ} {hm : (Finset.univ : Finset r.shape.Idx) = Finset.univ ∨ _}
    {k : PUnit → Prog (TpuEff nD τ sig (Elt F) Λ c.2) α} {X : s.Idx → Elt F e}
    (h : ∀ X' : s.Idx → Elt F e, (∀ x, X' (r.emb x) = w x) → (∀ y, y ∉ r.set → X' y = X y) →
      iprop(owns c m fullShare X' ∗ R) ⊢ wp frame (wpE defs 𝒱 c bd) E (k ⟨⟩) Q) :
    iprop(owns c m fullShare X ∗ R) ⊢ wp frame (wpE defs 𝒱 c bd) E (.op (.store m r w Finset.univ hx hm) k) Q := by
  unfold owns at h ⊢
  iintro ⟨⟨%f, %hf, Hf⟩, HR⟩
  iapply (wp_store 𝒱 c bd E (m := m) (r := r) (w := w) (Mk := Finset.univ) (S := m.view.set)
    ((View.setOn_subset_set _ _).trans (m.view.set_slice_subset r))) $$ Hf; iintro Hf
  iapply (h (m.view.read (Elt F) ((m.access r).write (Elt F) f w Finset.univ))
    (fun x => View.read_slice_write_emb r f w (Finset.mem_univ x))
    (fun y hy => by
      subst hf
      exact View.read_slice_write_of_not_mem r f w _ (by rwa [Rect.map_emb_univ])))
  isplitl [Hf]
  · iexists _; isplitr; · ipureintro; rfl
    iexact Hf
  · iexact HR

/-- A scatter over the whole of a memref owned at `X` continues at the scattered contents. -/
theorem scatter_own {d : Fin 1 → Nat} {m : Memref sig c.2.kind .vmem s e} {idxs : Fin s.rank → IVec ⟨1, d⟩ 32} {v : Vec F ⟨1, d⟩ e}
    {mask : IVec ⟨1, d⟩ 1} {add : Bool} {hi : ∀ a x, (idxs a x).toNat < s.size a} {hs : (m.access (.whole s)).Stores Finset.univ}
    {k : PUnit → Prog (TpuEff nD τ sig (Elt F) Λ c.2) α} {X : s.Idx → Elt F e}
    (h : iprop(owns c m fullShare (storeIdx X idxs v mask add hi) ∗ R) ⊢ wp frame (wpE defs 𝒱 c bd) E (k ⟨⟩) Q) :
    iprop(owns c m fullShare X ∗ R) ⊢ wp frame (wpE defs 𝒱 c bd) E (SparseCore.vectorStoreIdx m idxs v mask add hi hs >>= k) Q := by
  rw [SparseCore.vectorStoreIdx_bind]
  refine load_own (r := .whole s) 𝒱 c bd E ?_
  refine store_own 𝒱 c bd E fun X' hX _ => ?_
  have e : ∀ x, (Rect.whole s).emb x = x := fun x => by simp
  have hX' : X' = storeIdx X idxs v mask add hi := by
    funext x
    have := hX x
    rw [e] at this
    rw [this]
    congr 1
    funext y
    exact congrArg X (e y)
  subst hX'
  exact h

/-- What is shown of a frame's resources is shown of the frame. -/
theorem as_shown {A B : sProp 𝕄} (h : A ⊢ B) : A ⊢ B := h

/-- The first two of three resources change places, whatever is shown of them. -/
theorem swap_two {A B : sProp 𝕄} : iprop(A ∗ B ∗ R) ⊢ iprop(B ∗ A ∗ R) := by
  iintro ⟨HA, HB, HR⟩; isplitl [HB]; · iexact HB
  isplitl [HA] <;> iassumption

/-- The third of four resources comes first, -/
theorem third_first {A B C : sProp 𝕄} : iprop(A ∗ B ∗ C ∗ R) ⊢ iprop(C ∗ A ∗ B ∗ R) := by
  iintro ⟨HA, HB, HC, HR⟩; isplitl [HC]; · iexact HC
  isplitl [HA]; · iexact HA
  isplitl [HB] <;> iassumption

/-- and goes back. -/
theorem first_third {A B C : sProp 𝕄} : iprop(C ∗ A ∗ B ∗ R) ⊢ iprop(A ∗ B ∗ C ∗ R) := by
  iintro ⟨HC, HA, HB, HR⟩; isplitl [HA]; · iexact HA
  isplitl [HB]; · iexact HB
  isplitl [HC] <;> iassumption

section Copies

variable [CountersIn U] [Infinite Name]

/-- A copy of a memref owned at `X` onto another, on a cell at zero: in flight, it delivers the destination owned at `X` and the
    source back. -/
theorem copy_own {sp sp' : Space} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {X Z : s.Idx → Elt F e} (ι : Ix) (hs : 0 < s.numel) :
    iprop(owns c src q X ∗ owns c dst fullShare Z ∗ semVal (c, .dma sm) 0)
      ⊢ iprop((Transfers.Flight (countersEmb (U := U)) c (.dma sm) ι dst.view.dmaCredit iprop(owns c dst fullShare X ∗ owns c src q X)
              -∗ wp frame (wpE defs 𝒱 c bd) Set.univ (k ⟨⟩) Q)
          -∗ wp frame (wpE defs 𝒱 c bd) Set.univ (.op (.enqueueDma src (.here dst) (.dma sm) hsrc hdst hsem) k) Q) := by
  unfold owns
  iintro ⟨⟨%f, %hf, Hf⟩, ⟨%g, %hg, Hg⟩, Hv⟩ Hk
  iapply (Transfers.wp_dmaLocal (countersEmb (U := U)) 𝒱 c bd (via := .same) ι dst.view.dmaCredit rfl (View.dmaCredit_pos _ hs) (Finset.Subset.refl _)) $$ [Hf Hg Hv]
  · isplitl [Hf]; · iexact Hf
    isplitl [Hg]; · iexact Hg
    iexact Hv
  iintro Hfl
  iapply Hk
  iapply (Transfers.Flight_mono (countersEmb (U := U)) c ?hd) $$ Hfl
  case hd =>
    iintro ⟨Hd, Hs⟩
    isplitl [Hd]
    · iexists dst.view.write (Elt F) g (src.view.read (Elt F) f) Finset.univ
      isplitr; · ipureintro; exact (View.read_write_univ _ _).trans hf
      iexact Hd
    · iexists f; isplitr; · ipureintro; exact hf
      iexact Hs

end Copies

end Cert.Proof.OwnRules
-- ==== Proof.Hist.lean ====
/-
  The values one tile computes. `hist lab n` is the tile's table of bins after the first `n` pixels of its slab, in row-major
  order: each pixel adds one onto the bin its label names. `reduced` is the sum of the table's sixteen strided parts, the
  row of 512 words a tile writes out. Both are stated for any float values.
-/
module

public import proofs.«01_k».proof.Proof.Gen.KernelIdeal.Skeleton
public import Idealize.ShloMosaic.Lib.Pipeline.Value

@[expose] public section

set_option maxRecDepth 16384

noncomputable section

namespace Cert.Proof.Hist

open Cert.KernelIdeal Cert.KernelIdeal.Gen
open Idealize.ShloMosaic

variable {F : FTy → Type} [FloatOps F]

/-- The label of pixel `n` of a slab, its pixels counted row by row. -/
def labN (lab : S64x512.Idx → BitVec 32) (n : ℕ) : BitVec 32 :=
  lab fun
    | ⟨0, _⟩ => ⟨n / 512 % 64, Nat.mod_lt _ (by decide)⟩
    | ⟨1, _⟩ => ⟨n % 512, Nat.mod_lt _ (by decide)⟩

/-- One, as a bin counts it. -/
def oneF : F .f32 := Scalar.ofBits .f32 0x3F800000#32
/-- A bin's start. -/
def zeroF : F .f32 := Scalar.ofBits .f32 0x00000000#32

/-- The table after the first `n` pixels of the slab. -/
def hist (lab : S64x512.Idx → BitVec 32) : ℕ → S8224.Idx → F .f32
  | 0 => fun _ => zeroF
  | n + 1 => fun p => if (p 0).val = (labN lab n).toNat then FloatOps.idxAddf (hist lab n p) oneF else hist lab n p

/-- A fold over the positions below `N` whose step at `k` takes the `k`-th value to the next one ends at the `N`-th. -/
theorem foldl_finRange {β : Type} (f : ℕ → β) : ∀ (N : ℕ) (a : ℕ) (step : β → Fin N → β),
    (∀ k : Fin N, step (f (a + k)) k = f (a + k + 1)) → (List.finRange N).foldl step (f a) = f (a + N)
  | 0, a, step, _ => by simp
  | N + 1, a, step, h => by
    rw [List.finRange_succ, List.foldl_cons, List.foldl_map]
    have h0 := h 0
    simp only [Fin.val_zero, Nat.add_zero] at h0
    rw [h0, foldl_finRange f N (a + 1) (fun b k => step b k.succ) fun k => ?_]
    · congr 1; omega
    · have hk := h k.succ
      simp only [Fin.val_succ] at hk
      rw [show a + 1 + k.val = a + (k.val + 1) by omega]
      exact hk

/-- Sixteen labels scattered at once are the next sixteen pixels. -/
theorem scatter_hist {lab : S64x512.Idx → BitVec 32} {n : ℕ} {v : IVec S16 32} (hv : ∀ x : S16.Idx, v x = labN lab (n + (x 0).val))
    (h : ∀ a x, ((![v] : Fin 1 → IVec S16 32) a x).toNat < S8224.size a) :
    storeIdx (F := F) (s := S8224) (e := .f32) (hist lab n) ![v] (k2_pay1 (F := F)) (fun _ => 1#1) true h = hist (F := F) lab (n + 16) := by
  unfold storeIdx
  refine foldl_finRange (β := S8224.Idx → F .f32) (hist (F := F) lab) 16 n _ fun k => ?_
  funext p
  have hx : v (Shape.ofLane (d := ![16]) k) = labN lab (n + k.val) := hv _
  have hi : ((idxAt (s := S8224) ![v] h (Shape.ofLane k)) 0).val = (labN lab (n + k.val)).toNat := by
    rw [← hx]; rfl
  rw [if_pos (show ((1#1 : BitVec 1) = 1) by rfl), hist]
  beta_reduce
  by_cases hp : (p 0).val = (labN lab (n + k.val)).toNat
  · rw [if_pos hp, if_pos (by intro a; obtain rfl : a = 0 := Subsingleton.elim _ _; rw [hi]; exact hp)]
    have : idxAt (s := S8224) ![v] h (Shape.ofLane k) = p := by
      funext a; obtain rfl : a = 0 := Subsingleton.elim _ _
      exact Fin.ext (hi.trans hp.symm)
    rw [this]; rfl
  · rw [if_neg hp, if_neg (fun ha => hp (by rw [ha 0, hi]))]

/-- The label of every pixel of a slab names a bin. -/
def LabOK (lab : S64x512.Idx → BitVec 32) : Prop := ∀ x, (lab x).toNat < 8224

/-- Sixteen labels of a row, starting at a column. -/
theorem chunk_labels {lab : S64x512.Idx → BitVec 32} {off : Fin 2 → ℕ} {hinb : ∀ a, off a + S1x16.size a ≤ S64x512.size a} {n : ℕ}
    (hn : n = 512 * off 0 + off 1) (x : S16.Idx) :
    (shapeCast (α := BitVec 32) S16 (fun y : S1x16.Idx => lab ((Rect.unit (s := S64x512) off S1x16.size hinb).toLoadRect.idx y)) shapeCasts_S1x16_S16) x
      = labN lab (n + (x 0).val) := by
  have h0 : off 0 + 1 ≤ 64 := hinb 0
  have h1 : off 1 + 16 ≤ 512 := hinb 1
  have hx : (x 0).val < 16 := (x 0).isLt
  refine (shapeCast_dropUnit_apply ![16] _ _ x).trans ?_
  unfold labN
  congr 1
  funext a
  apply Fin.ext
  match a with
  | ⟨0, _⟩ => show off 0 + 1 * 0 = (n + (x 0).val) / 512 % 64; omega
  | ⟨1, _⟩ => show off 1 + 1 * (x 0).val = (n + (x 0).val) % 512; omega

/-- The bin of a number. -/
def binAt (n : ℕ) : S8224.Idx
  | ⟨0, _⟩ => ⟨n % 8224, Nat.mod_lt _ (by decide)⟩

/-- Sixteen words of a table from one place on. -/
def part (X : S8224.Idx → F .f32) (o : ℕ) : FVec F S16 .f32 :=
  fun x => X (binAt (o + (x 0).val))

/-- What a load of sixteen words of the table reads. -/
theorem part_load (X : S8224.Idx → F .f32) (off : Fin 1 → ℕ) (hinb : ∀ a, off a + S16.size a ≤ S8224.size a) :
    (fun y : S16.Idx => X ((Rect.unit (s := S8224) off S16.size hinb).toLoadRect.idx y)) = part X (off 0) := by
  funext x
  have h0 : off 0 + 16 ≤ 8224 := hinb 0
  have hx : (x 0).val < 16 := (x 0).isLt
  unfold part
  congr 1
  funext a
  obtain rfl : a = 0 := Subsingleton.elim _ _
  apply Fin.ext
  show off 0 + 1 * (x 0).val = (off 0 + (x 0).val) % 8224
  omega

/-- The sixteen words from `o` on, those of the next `l` parts of the table added. -/
def partSum (X : S8224.Idx → F .f32) (o : ℕ) : ℕ → FVec F S16 .f32
  | 0 => part X o
  | l + 1 => addf (partSum X o l) (part X (o + 513 * (l + 1)))

/-- A bin's words in the first `l + 1` parts of the table, added in order. -/
def binSum (X : S8224.Idx → F .f32) (p : ℕ) : ℕ → F .f32
  | 0 => X (binAt p)
  | l + 1 => FloatOps.addf (binSum X p l) (X (binAt (p + 513 * (l + 1))))

/-- The row a tile writes out. -/
def reduced (X : S8224.Idx → F .f32) : S512.Idx → F .f32 := fun p => binSum X (p 0).val 15

theorem partSum_apply (X : S8224.Idx → F .f32) (o : ℕ) (x : S16.Idx) : ∀ l, partSum X o l x = binSum X (o + (x 0).val) l
  | 0 => rfl
  | l + 1 => by
    show FloatOps.addf (partSum X o l x) _ = _
    rw [partSum_apply X o x l]
    show FloatOps.addf _ (X (binAt (o + 513 * (l + 1) + (x 0).val))) = _
    rw [show o + 513 * (l + 1) + (x 0).val = o + (x 0).val + 513 * (l + 1) by omega]
    rfl

/-- The first `n` words of a row are the sums they end as. -/
def Below (X : S8224.Idx → F .f32) (n : ℕ) (Y : S512.Idx → F .f32) : Prop := ∀ p : S512.Idx, (p 0).val < n → Y p = reduced X p

/-- Sixteen more words of the row written. -/
theorem below_step {X : S8224.Idx → F .f32} {n : ℕ} {Y Y' : S512.Idx → F .f32} {off : Fin 1 → ℕ} {hinb : ∀ a, off a + S16.size a ≤ S512.size a}
    {w : FVec F S16 .f32} (hY : Below X n Y) (ho : off 0 = n) (hw : w = partSum X n 15)
    (h₁ : ∀ x : S16.Idx, Y' ((Rect.unit (s := S512) off S16.size hinb).emb x) = w x)
    (h₂ : ∀ y, y ∉ (Rect.unit (s := S512) off S16.size hinb).set → Y' y = Y y) : Below X (n + 16) Y' := by
  intro p hp
  by_cases hlt : (p 0).val < n
  · rw [h₂ p (fun hm => ?_), hY p hlt]
    obtain ⟨x, rfl⟩ := (Rect.unit (s := S512) off S16.size hinb).exists_idx_of_mem hm
    have : off 0 + 1 * (x 0).val < n := hlt
    omega
  · have hx : (p 0).val - n < 16 := by omega
    have hp' : (Rect.unit (s := S512) off S16.size hinb).emb (fun a => ⟨(p 0).val - n, by obtain rfl : a = 0 := Subsingleton.elim _ _; exact hx⟩) = p := by
      funext a
      obtain rfl : a = 0 := Subsingleton.elim _ _
      apply Fin.ext
      show off 0 + 1 * ((p 0).val - n) = (p 0).val
      omega
    rw [← hp', h₁, hw, partSum_apply, hp']
    unfold reduced
    congr 1
    show n + ((p 0).val - n) = _
    omega

/-- The first `n` bins are cleared. -/
def Cleared (n : ℕ) (X : S8224.Idx → F .f32) : Prop := ∀ p : S8224.Idx, (p 0).val < n → X p = zeroF

/-- Sixteen more bins cleared. -/
theorem cleared_step {n : ℕ} {X X' : S8224.Idx → F .f32} {off : Fin 1 → ℕ} {hinb : ∀ a, off a + S16.size a ≤ S8224.size a}
    (hX : Cleared n X) (ho : off 0 = n)
    (h₁ : ∀ x : S16.Idx, X' ((Rect.unit (s := S8224) off S16.size hinb).emb x) = k2_pay2 (F := F) x)
    (h₂ : ∀ y, y ∉ (Rect.unit (s := S8224) off S16.size hinb).set → X' y = X y) : Cleared (n + 16) X' := by
  intro p hp
  by_cases hlt : (p 0).val < n
  · rw [h₂ p (fun hm => ?_), hX p hlt]
    obtain ⟨x, rfl⟩ := (Rect.unit (s := S8224) off S16.size hinb).exists_idx_of_mem hm
    have : off 0 + 1 * (x 0).val < n := hlt
    omega
  · have hx : (p 0).val - n < 16 := by omega
    have hp' : (Rect.unit (s := S8224) off S16.size hinb).emb (fun a => ⟨(p 0).val - n, by obtain rfl : a = 0 := Subsingleton.elim _ _; exact hx⟩) = p := by
      funext a
      obtain rfl : a = 0 := Subsingleton.elim _ _
      apply Fin.ext
      show off 0 + 1 * ((p 0).val - n) = (p 0).val
      omega
    rw [← hp', h₁]
    rfl

end Cert.Proof.Hist
-- ==== Proof.Tile.lean ====
/-
  One tile's task: its slab of labels copied in while the table of bins is cleared, one onto a bin for every pixel, the table's
  sixteen parts added, the row written out. Stated once for both calls, over any memrefs.
-/
module

public import proofs.«01_k».proof.Proof.OwnRules
public import proofs.«01_k».proof.Proof.Hist

@[expose] public section

set_option maxRecDepth 16384

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.OwnRules Cert.Proof.Hist

variable {F : FTy → Type} [FloatOps F] {U : Type} [URA U] [CountersIn U]

local notation "𝕄" => MT nD τ sig (HIx 2) (Elt F) ℕ U ℕ

abbrev 𝒱₀ : Variants := Variants.none

section Steps

variable {c : Thread nD τ} {bd : Option 𝒱₀.V} {E : Set ℕ} {α : Type} {Q : α → sProp (MT nD τ sig (HIx 2) (Elt F) ℕ U ℕ)} {R : sProp (MT nD τ sig (HIx 2) (Elt F) ℕ U ℕ)}
variable {m4 : Memref sig c.2.kind .vmem S64x512 .i32} {m5 : Memref sig c.2.kind .vmem S8224 .f32} {m6 : Memref sig c.2.kind .vmem S512 .f32}
variable {lab : S64x512.Idx → BitVec 32} {X : S8224.Idx → F .f32} {Y : S512.Idx → F .f32}

/-- What a tile holds while it counts and adds: the slab, the table, the row, and the rest. -/
def Held (c : Thread nD τ) (m4 : Memref sig c.2.kind .vmem S64x512 .i32) (m5 : Memref sig c.2.kind .vmem S8224 .f32)
    (m6 : Memref sig c.2.kind .vmem S512 .f32) (lab : S64x512.Idx → BitVec 32) (X : S8224.Idx → F .f32) (Y : S512.Idx → F .f32)
    (R : sProp 𝕄) : sProp 𝕄 :=
  iprop(owns (Val := Elt F) c m4 fullShare lab ∗ owns (Val := Elt F) c m5 fullShare X ∗ owns (Val := Elt F) c m6 fullShare Y ∗ R)

/-- Sixteen labels loaded. -/
theorem step_labels {off : Fin 2 → ℕ} {hinb : ∀ a, off a + S1x16.size a ≤ S64x512.size a} {hl}
    {k : (S1x16.Idx → BitVec 32) → Prog (TpuEff nD τ sig (Elt F) Λ₀ c.2) α}
    (h : Held (U := U) c m4 m5 m6 lab X Y R ⊢ wp frame (wpE defs₀ 𝒱₀ c bd) E
      (k fun y => lab ((Rect.unit (s := S64x512) off S1x16.size hinb).toLoadRect.idx y)) Q) :
    Held (U := U) c m4 m5 m6 lab X Y R ⊢ wp frame (wpE defs₀ 𝒱₀ c bd) E
      (.op (.load m4 (Rect.unit (s := S64x512) off S1x16.size hinb).toLoadRect hl) k) Q :=
  load_own 𝒱₀ c bd E h

/-- Sixteen bins loaded. -/
theorem step_bins {off : Fin 1 → ℕ} {hinb : ∀ a, off a + S16.size a ≤ S8224.size a} {hl}
    {k : (S16.Idx → F .f32) → Prog (TpuEff nD τ sig (Elt F) Λ₀ c.2) α}
    (h : Held (U := U) c m4 m5 m6 lab X Y R ⊢ wp frame (wpE defs₀ 𝒱₀ c bd) E (k (part X (off 0))) Q) :
    Held (U := U) c m4 m5 m6 lab X Y R ⊢ wp frame (wpE defs₀ 𝒱₀ c bd) E
      (.op (.load m5 (Rect.unit (s := S8224) off S16.size hinb).toLoadRect hl) k) Q := by
  rw [← part_load X off hinb] at h
  unfold Held at h ⊢
  refine BI.Entails.trans ?_ (load_own 𝒱₀ c bd E (q := fullShare) (X := X) (R := iprop(owns (Val := Elt F) c m4 fullShare lab ∗ owns (Val := Elt F) c m6 fullShare Y ∗ R)) (BI.Entails.trans ?_ h))
  · exact swap_two
  · exact swap_two

/-- Sixteen words of the row loaded, and not used. -/
theorem step_row {off : Fin 1 → ℕ} {hinb : ∀ a, off a + S16.size a ≤ S512.size a} {hl}
    {k : (S16.Idx → F .f32) → Prog (TpuEff nD τ sig (Elt F) Λ₀ c.2) α}
    (h : ∀ v, Held (U := U) c m4 m5 m6 lab X Y R ⊢ wp frame (wpE defs₀ 𝒱₀ c bd) E (k v) Q) :
    Held (U := U) c m4 m5 m6 lab X Y R ⊢ wp frame (wpE defs₀ 𝒱₀ c bd) E
      (.op (.load m6 (Rect.unit (s := S512) off S16.size hinb).toLoadRect hl) k) Q := by
  unfold Held at h ⊢
  refine BI.Entails.trans ?_ (load_own 𝒱₀ c bd E (q := fullShare) (X := Y) (R := iprop(owns (Val := Elt F) c m4 fullShare lab ∗ owns (Val := Elt F) c m5 fullShare X ∗ R)) (BI.Entails.trans ?_ (h _)))
  · exact third_first
  · exact first_third

/-- Sixteen words of the row stored. -/
theorem step_store {off : Fin 1 → ℕ} {hinb : ∀ a, off a + S16.size a ≤ S512.size a} {w : FVec F S16 .f32} {hx} {hm : _ ∨ _} {n : ℕ}
    {k : PUnit → Prog (TpuEff nD τ sig (Elt F) Λ₀ c.2) α} (hY : Below X n Y) (ho : off 0 = n) (hw : w = partSum X n 15)
    (h : ∀ Y', Below X (n + 16) Y' → Held (U := U) c m4 m5 m6 lab X Y' R ⊢ wp frame (wpE defs₀ 𝒱₀ c bd) E (k ⟨⟩) Q) :
    Held (U := U) c m4 m5 m6 lab X Y R ⊢ wp frame (wpE defs₀ 𝒱₀ c bd) E
      (.op (.store m6 (Rect.unit (s := S512) off S16.size hinb) w Finset.univ hx hm) k) Q := by
  unfold Held at h ⊢
  refine BI.Entails.trans ?_ (store_own 𝒱₀ c bd E (X := Y) (R := iprop(owns (Val := Elt F) c m4 fullShare lab ∗ owns (Val := Elt F) c m5 fullShare X ∗ R))
    fun Y' h₁ h₂ => BI.Entails.trans ?_ (h Y' (below_step hY ho hw h₁ h₂)))
  · exact third_first
  · exact first_third

/-- The check of sixteen labels passes. -/
theorem step_check {P : Prop} {dec : Decidable P} {k : PLift P → Prog (TpuEff nD τ sig (Elt F) Λ₀ c.2) α} (hP : P)
    (h : ∀ hP : P, Held (U := U) c m4 m5 m6 lab X Y R ⊢ wp frame (wpE defs₀ 𝒱₀ c bd) E (k ⟨hP⟩) Q) :
    Held (U := U) c m4 m5 m6 lab X Y R ⊢ wp frame (wpE defs₀ 𝒱₀ c bd) E (.op (.assume P dec) k) Q := by
  rw [wp_assume_of 𝒱₀ c bd E hP]; exact h hP

/-- Sixteen labels counted. -/
theorem step_count {v : IVec S16 32} {hi hs} {n : ℕ} {k : PUnit → Prog (TpuEff nD τ sig (Elt F) Λ₀ c.2) α}
    (hv : ∀ x : S16.Idx, v x = labN lab (n + (x 0).val))
    (h : Held (U := U) c m4 m5 m6 lab (hist lab (n + 16)) Y R ⊢ wp frame (wpE defs₀ 𝒱₀ c bd) E (k ⟨⟩) Q) :
    Held (U := U) c m4 m5 m6 lab (hist lab n) Y R ⊢ wp frame (wpE defs₀ 𝒱₀ c bd) E
      (SparseCore.vectorStoreIdx m5 ![v] (k2_pay1 (F := F)) (fun _ => 1#1) true hi hs >>= k) Q := by
  rw [← scatter_hist hv hi] at h
  unfold Held at h ⊢
  refine BI.Entails.trans ?_ (scatter_own 𝒱₀ c bd E (X := hist lab n) (R := iprop(owns (Val := Elt F) c m4 fullShare lab ∗ owns (Val := Elt F) c m6 fullShare Y ∗ R)) (BI.Entails.trans ?_ h))
  · exact swap_two
  · exact swap_two

/-- Sixteen labels of a slab's row, checked: each names a bin. -/
theorem chunk_check (hlab : LabOK lab) {off : Fin 2 → ℕ} {hinb : ∀ a, off a + S1x16.size a ≤ S64x512.size a} :
    ∀ a x, ((![shapeCast (α := BitVec 32) S16 (fun y : S1x16.Idx => lab ((Rect.unit (s := S64x512) off S1x16.size hinb).toLoadRect.idx y)) shapeCasts_S1x16_S16]
      : Fin 1 → IVec S16 32) a x).toNat < S8224.size a := by
  intro a x
  obtain rfl : a = 0 := Subsingleton.elim _ _
  exact (congrArg BitVec.toNat (chunk_labels (lab := lab) (hinb := hinb) rfl x)).trans_lt (hlab _)

/-- The row a trip counts, -/
theorem trip_row : ∀ t : Fin k2_t2_loop.trips, (Scalar.indexCast (Scf.iv 0#32 1#32 t)).toNat = t.val := by decide +kernel

/-- Sixteen labels of row `t` counted, from column `n` on. -/
theorem step_chunk {t : Fin k2_t2_loop.trips} {off : Fin 2 → ℕ} {hinb : ∀ a, off a + S1x16.size a ≤ S64x512.size a} {hi hs} {n : ℕ}
    {k : PUnit → Prog (TpuEff nD τ sig (Elt F) Λ₀ c.2) α}
    (h0 : off 0 = (Scalar.indexCast (Scf.iv 0#32 1#32 t)).toNat) (h1 : off 1 = n)
    (h : Held (U := U) c m4 m5 m6 lab (hist lab (512 * t.val + (n + 16))) Y R ⊢ wp frame (wpE defs₀ 𝒱₀ c bd) E (k ⟨⟩) Q) :
    Held (U := U) c m4 m5 m6 lab (hist lab (512 * t.val + n)) Y R ⊢ wp frame (wpE defs₀ 𝒱₀ c bd) E
      (SparseCore.vectorStoreIdx m5
        ![shapeCast (α := BitVec 32) S16 (fun y : S1x16.Idx => lab ((Rect.unit (s := S64x512) off S1x16.size hinb).toLoadRect.idx y)) shapeCasts_S1x16_S16]
        (k2_pay1 (F := F)) (fun _ => 1#1) true hi hs >>= k) Q :=
  step_count (fun x => chunk_labels (by rw [h0, trip_row, h1]) x) h

end Steps

section Body

variable (L : grid2.Coords) (d : Dev nD)

abbrev cV : Fin τ.nSC := (L 0).castLE hcore2
abbrev jV : Fin τ.nSub := (L 1).castLE hsub2

variable (a2 : Memref sig .scVector .hbm S4x512x512 .i32) (h2 : a2.IsWhole) (a3 : Memref sig .scVector .hbm S32x512 .f32) (h3 : a3.IsWhole)
variable (a4 : Memref sig .scVector .vmem S64x512 .i32) (h4 : a4.IsWhole) (a5 : Memref sig .scVector .vmem S8224 .f32) (h5 : a5.IsWhole)
variable (a6 : Memref sig .scVector .vmem S512 .f32) (h6 : a6.IsWhole) (s7 s8 : DmaSems sig S_)
variable {lab : S64x512.Idx → BitVec 32} {Y : S512.Idx → F .f32} {R : sProp (MT nD τ sig (HIx 2) (Elt F) ℕ U ℕ)}

/-- One row of the slab counted. -/
theorem rows_trip (hlab : LabOK lab) (t : Fin k2_t2_loop.trips) (acc : BitVec 32) (z0 z1 : BitVec 32) :
    Held (U := U) (V d (cV L) (jV L)) a4 a5 a6 lab (hist lab (512 * t.val)) Y R
      ⊢ wp frame (wpE (defs₀ (F := F)) 𝒱₀ (V d (cV L) (jV L)) none) Set.univ
          (k2_t2_body L a2 h2 a3 h3 a4 h4 a5 h5 a6 h6 s7 s8 (k2_pay1 (F := F)) (k2_pay2 (F := F)) z0 z1 t acc)
          fun _ => Held (U := U) (V d (cV L) (jV L)) a4 a5 a6 lab (hist lab (512 * (t.val + 1))) Y R := by
  unfold k2_t2_body
  simp only [k2_part1_eq_skeleton, k2_part2_eq_skeleton, k2_part3_eq_skeleton]
  unfold k2_part1_skel k2_part2_skel k2_part3_skel
  simp only [Prog.lift, Prog.bind_op, Prog.bind_ret, Prog.pure_eq_ret, Prog.bind_assoc]
  rw [show 512 * t.val = 512 * t.val + 0 from rfl]
  iterate 32
    refine step_labels ?_
    refine step_check (chunk_check hlab) fun _ => ?_
    refine step_chunk (t := t) rfl rfl ?_
  rw [wp_ret]
  iintro H; imodintro; iexact H

/-- Sixteen bins cleared. -/
theorem clear_trip {c : Thread nD τ} {m5 : Memref sig c.2.kind .vmem S8224 .f32} {X : S8224.Idx → F .f32} {n : ℕ} {off : Fin 1 → ℕ}
    {hinb : ∀ a, off a + S16.size a ≤ S8224.size a} {hl hx} {hm : _ ∨ _} (hX : Cleared (16 * n) X) (ho : off 0 = 16 * n) :
    owns (Val := Elt F) c m5 fullShare X
      ⊢ (wp frame (wpE (defs₀ (F := F)) 𝒱₀ c none) Set.univ
          (.op (.load m5 (Rect.unit (s := S8224) off S16.size hinb).toLoadRect hl) fun _ =>
            .op (.store m5 (Rect.unit (s := S8224) off S16.size hinb) (k2_pay2 (F := F)) Finset.univ hx hm) fun _ => .ret (0#32))
          fun _ => iprop(∃ X : S8224.Idx → F .f32, ⌜Cleared (16 * (n + 1)) X⌝ ∗ owns (Val := Elt F) c m5 fullShare X)
          : sProp (MT nD τ sig (HIx 2) (Elt F) ℕ U ℕ)) := by
  iintro H
  iapply (load_own 𝒱₀ c none Set.univ (q := fullShare) (X := X) (R := iprop(emp)) ?h) $$ [H]
  case h =>
    beta_reduce
    refine store_own 𝒱₀ c none Set.univ (F := F) (s := S8224) (e := .f32) (X := X) (R := iprop(emp)) fun X' h₁ h₂ => ?_
    rw [wp_ret]
    iintro ⟨H, -⟩; imodintro
    iexists X'; isplitr; · ipureintro; exact cleared_step hX ho h₁ h₂
    iexact H
  · isplitl [H]; · iexact H
    iempintro

/-- The clearing loop's offset. -/
theorem clear_off : ∀ t : Fin k2_t1_loop.trips, k2_off2 t 0 = 16 * t.val := by decide +kernel

/-- The tile's slab, as the task names it: sixty-four rows of a batch's labels. -/
abbrev slab : Memref sig .scVector .hbm S64x512 .i32 :=
  (a2.slice (Rect.unit (s := S4x512x512) (k2_off1 L) S1x64x512.size (k2_off1_inb L)) (fun _ => rfl)).squeeze S64x512 squeezes_S1x64x512_S64x512
/-- The tile's row of the result, as the task names it. -/
abbrev outRow : Memref sig .scVector .hbm S512 .f32 :=
  (a3.slice (Rect.unit (s := S32x512) (k2_off35 L) S1x512.size (k2_off35_inb L)) (fun _ => rfl)).squeeze S512 squeezes_S1x512_S512

set_option maxHeartbeats 4000000 in
/-- The tile's task, from its slab of labels to its row of sums. -/
theorem tile_run (hlab : LabOK lab) (q : PosShare TreeShare) (O : CellTallies nD τ sig (HIx 2)) (W : Waits sig (HIx 2)) (hO : ∀ g, O g none = 0) :
    iprop(levAts (sc (F := F)).L (sc (F := F)).lev
        ∗ owns (Val := Elt F) (V d (cV L) (jV L)) (slab L a2) q lab ∗ (∃ Z : S512.Idx → F .f32, owns (Val := Elt F) (V d (cV L) (jV L)) (outRow L a3) fullShare Z)
        ∗ (∃ Z : S64x512.Idx → BitVec 32, owns (Val := Elt F) (V d (cV L) (jV L)) a4 fullShare Z) ∗ (∃ Z : S8224.Idx → F .f32, owns (Val := Elt F) (V d (cV L) (jV L)) a5 fullShare Z)
        ∗ (∃ Z : S512.Idx → F .f32, owns (Val := Elt F) (V d (cV L) (jV L)) a6 fullShare Z)
        ∗ semVal (V d (cV L) (jV L), .dma s7.sem) 0 ∗ semVal (V d (cV L) (jV L), .dma s8.sem) 0 ∗ owes (V d (cV L) (jV L)) O W)
      ⊢ (wp frame (wpE (defs₀ (F := F)) 𝒱₀ (V d (cV L) (jV L)) none) Set.univ
          (cc2__sc_hist_body L a2 h2 a3 h3 a4 h4 a5 h5 a6 h6 s7 s8)
          fun _ => iprop(owns (Val := Elt F) (V d (cV L) (jV L)) (slab L a2) q lab ∗ owns (Val := Elt F) (V d (cV L) (jV L)) (outRow L a3) fullShare (reduced (F := F) (hist lab 32768))
            ∗ (∃ Z : S64x512.Idx → BitVec 32, owns (Val := Elt F) (V d (cV L) (jV L)) a4 fullShare Z) ∗ (∃ Z : S8224.Idx → F .f32, owns (Val := Elt F) (V d (cV L) (jV L)) a5 fullShare Z)
            ∗ (∃ Z : S512.Idx → F .f32, owns (Val := Elt F) (V d (cV L) (jV L)) a6 fullShare Z)
            ∗ semVal (V d (cV L) (jV L), .dma s7.sem) 0 ∗ semVal (V d (cV L) (jV L), .dma s8.sem) 0
            ∗ ∃ W', ⌜∀ p ∈ W', p ∈ W ∨ p.2 = none⌝ ∗ owes (V d (cV L) (jV L)) O W') : sProp (MT nD τ sig (HIx 2) (Elt F) ℕ U ℕ)) := by
  rw [cc2__sc_hist_body_eq_skeleton]; unfold cc2__sc_hist_body_skel
  simp only [k2_part4_eq_skeleton, k2_part5_eq_skeleton]
  unfold k2_part4_skel k2_part5_skel
  simp only [Prog.lift, Prog.bind_op, Prog.bind_ret, Prog.pure_eq_ret, Prog.bind_assoc]
  iintro ⟨#Hlv, Hs, ⟨%Zo, Ho⟩, ⟨%Z4, H4⟩, ⟨%Z5, H5⟩, ⟨%Z6, H6⟩, Hv7, Hv8, HO⟩
  iapply (copy_own 𝒱₀ (V d (cV L) (jV L)) none (src := slab L a2) (dst := a4) (none : HIx 2) (by decide)) $$ [Hs H4 Hv7]
  · isplitl [Hs]; · iexact Hs
    isplitl [H4]; · iexact H4
    iexact Hv7
  iintro Hfl
  iapply (Scf.wp_for_bind _ _ _ _ _ _ _ _ _ (fun n _ => iprop(∃ X : S8224.Idx → F .f32, ⌜Cleared (16 * n) X⌝ ∗ owns (Val := Elt F) (V d (cV L) (jV L)) a5 fullShare X)) ?hclear) $$ [H5]
  case hclear =>
    intro t acc
    unfold k2_t1_body
    simp only [Prog.lift, Prog.bind_op, Prog.bind_ret, Prog.pure_eq_ret, Prog.bind_assoc]
    iintro ⟨%X, %hX, H⟩
    iapply (as_shown (clear_trip hX (clear_off t))) $$ H
  · iexists Z5; isplitr; · ipureintro; intro p hp; exact absurd hp (Nat.not_lt_zero _)
    iexact H5
  iintro %acc ⟨%X, %hX, H5⟩
  obtain rfl : X = hist lab 0 := funext fun p => hX p (p 0).isLt
  iapply (Transfers.wp_waitLocalO (countersEmb (U := U)) 𝒱₀ (V d (cV L) (jV L)) none (none : HIx 2) rfl) $$ [Hfl HO]
  · isplitl [Hfl]; · iexact Hfl
    isplitl [HO]; · iexact HO
    iapply (SparseCore.Cfg.mayWait_none (K := sc (F := F)) _ hO) $$ Hlv
  iintro ⟨⟨H4, Hs⟩, Hv7, HO⟩
  iapply (Scf.wp_for_bind _ _ _ _ _ _ _ _ _ (fun n _ => Held (U := U) (V d (cV L) (jV L)) a4 a5 a6 lab (hist lab (512 * n)) Z6
    iprop(emp)) (fun t acc => rows_trip L d a2 h2 a3 h3 a4 h4 a5 h5 a6 h6 s7 s8 hlab t acc _ _)) $$ [H4 H5 H6]
  · unfold Held; isplitl [H4]; · iexact H4
    isplitl [H5]; · iexact H5
    isplitl [H6]; · iexact H6
    iempintro
  iintro %acc' HH
  iapply (as_shown (A := Held (U := U) (V d (cV L) (jV L)) a4 a5 a6 lab (hist lab 32768) Z6
    iprop(levAts (sc (F := F)).L (sc (F := F)).lev ∗ owns (Val := Elt F) (V d (cV L) (jV L)) (slab L a2) q lab
      ∗ owns (Val := Elt F) (V d (cV L) (jV L)) (outRow L a3) fullShare Zo ∗ semVal (V d (cV L) (jV L), .dma s7.sem) 0
      ∗ semVal (V d (cV L) (jV L), .dma s8.sem) 0 ∗ owes (V d (cV L) (jV L)) O (insert (SemLoc.dma s7.sem, none) W))) ?sums) $$ [HH Hs Ho Hv7 Hv8 HO]
  case sums =>
    simp only [
      k2_part6_eq_skeleton, k2_part7_eq_skeleton, k2_part8_eq_skeleton, k2_part9_eq_skeleton, k2_part10_eq_skeleton, k2_part11_eq_skeleton,
      k2_part12_eq_skeleton, k2_part13_eq_skeleton, k2_part14_eq_skeleton, k2_part15_eq_skeleton, k2_part16_eq_skeleton,
      k2_part17_eq_skeleton, k2_part18_eq_skeleton, k2_part19_eq_skeleton, k2_part20_eq_skeleton, k2_part21_eq_skeleton,
      k2_part22_eq_skeleton, k2_part23_eq_skeleton, k2_part24_eq_skeleton, k2_part25_eq_skeleton, k2_part26_eq_skeleton,
      k2_part27_eq_skeleton, k2_part28_eq_skeleton, k2_part29_eq_skeleton, k2_part30_eq_skeleton, k2_part31_eq_skeleton]
    unfold
      k2_part6_skel k2_part7_skel k2_part8_skel k2_part9_skel k2_part10_skel k2_part11_skel k2_part12_skel k2_part13_skel k2_part14_skel
      k2_part15_skel k2_part16_skel k2_part17_skel k2_part18_skel k2_part19_skel k2_part20_skel k2_part21_skel k2_part22_skel k2_part23_skel
      k2_part24_skel k2_part25_skel k2_part26_skel k2_part27_skel k2_part28_skel k2_part29_skel k2_part30_skel k2_part31_skel
    simp only [Prog.lift, Prog.bind_op, Prog.bind_ret, Prog.pure_eq_ret, Prog.bind_assoc]
    have hY : Below (F := F) (hist lab 32768) 0 Z6 := fun p hp => absurd hp (Nat.not_lt_zero _)
    iterate 32
      iterate 16 refine step_bins ?_
      refine step_row fun _ => ?_
      refine step_store (by assumption) rfl rfl fun Y' hY' => ?_
    rename_i Y'
    obtain rfl : Y' = reduced (hist lab 32768) := funext fun p => hY' p (p 0).isLt
    unfold Held
    iintro ⟨H4, H5, H6, #Hlv, Hs, Ho, Hv7, Hv8, HO⟩
    iapply (copy_own 𝒱₀ (V d (cV L) (jV L)) none (src := a6) (dst := outRow L a3) (none : HIx 2) (by decide)) $$ [H6 Ho Hv8]
    · isplitl [H6]; · iexact H6
      isplitl [Ho]; · iexact Ho
      iexact Hv8
    iintro Hfl
    iapply (Transfers.wp_waitLocalO (countersEmb (U := U)) 𝒱₀ (V d (cV L) (jV L)) none (none : HIx 2) rfl) $$ [Hfl HO]
    · isplitl [Hfl]; · iexact Hfl
      isplitl [HO]; · iexact HO
      iapply (SparseCore.Cfg.mayWait_none (K := sc (F := F)) _ hO) $$ Hlv
    iintro ⟨⟨Ho, H6⟩, Hv8, HO⟩
    rw [wp_ret]; imodintro
    isplitl [Hs]; · iexact Hs
    isplitl [Ho]; · iexact Ho
    isplitl [H4]; · iexists lab; iexact H4
    isplitl [H5]; · iexists _; iexact H5
    isplitl [H6]; · iexists _; iexact H6
    isplitl [Hv7]; · iexact Hv7
    isplitl [Hv8]; · iexact Hv8
    iexists insert (SemLoc.dma s8.sem, (none : HIx 2)) (insert (SemLoc.dma s7.sem, (none : HIx 2)) W); isplitr
    · ipureintro; intro p hp
      rcases Finset.mem_insert.mp hp with hp | hp
      · exact .inr (hp ▸ rfl)
      rcases Finset.mem_insert.mp hp with hp | hp
      · exact .inr (hp ▸ rfl)
      · exact .inl hp
    iexact HO
  · unfold Held
    icases HH with ⟨H4, H5, H6, -⟩
    isplitl [H4]; · iexact H4
    isplitl [H5]; · iexact H5
    isplitl [H6]; · iexact H6
    isplitl []; · iexact Hlv
    isplitl [Hs]; · iexact Hs
    isplitl [Ho]; · iexact Ho
    isplitl [Hv7]; · iexact Hv7
    isplitl [Hv8]; · iexact Hv8
    iexact HO

end Body

end Cert.Proof.Tile
-- ==== Proof.LabelBody.lean ====
/-
  The labelling body of the first two calls: per pixel, the scan of the nineteen classes for the largest logit, and the bin of the
  pixel's (mask, class) pair in the part of its lane.
-/
module

public import proofs.«01_k».proof.Proof.Tile

@[expose] public section

set_option maxRecDepth 16384

noncomputable section

namespace Cert.Proof.LabelBody

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.OwnRules

variable {F : FTy → Type} [FloatOps F]

/-- The largest of the first `n + 1` logits, as the scan finds it; -/
def best (x : ℕ → F .f32) : ℕ → F .f32
  | 0 => x 0
  | n + 1 => Scalar.select (FloatOps.cmpf .ogt (x (n + 1)) (best x n)) (x (n + 1)) (best x n)

/-- and its class: the first to reach it. -/
def scan (x : ℕ → F .f32) : ℕ → BitVec 32
  | 0 => 0#32
  | n + 1 => Scalar.select (FloatOps.cmpf .ogt (x (n + 1)) (best x n)) (BitVec.ofNat 32 (n + 1)) (scan x n)

/-- The label of a pixel: its logits `x`, its mask, its column. -/
def label (x : ℕ → F .f32) (mk col : BitVec 32) : BitVec 32 :=
  IntOp.addi (IntOp.addi (IntOp.muli mk 19#32) (scan x 18)) (IntOp.muli (IntOp.andi col 15#32) 513#32)

/-- One class's slice of the block, as a table of pixels. -/
def slice (v : Vec F S1x1x256x512 .f32) : FVec F S256x512 .f32 := shapeCast S256x512 v shapeCasts_S1x1x256x512_S256x512
/-- The scan's state over a table of pixels. -/
def bestV (v : ℕ → Vec F S1x1x256x512 .f32) (n : ℕ) : FVec F S256x512 .f32 := fun p => best (fun n => slice (v n) p) n
def scanV (v : ℕ → Vec F S1x1x256x512 .f32) (n : ℕ) : IVec S256x512 32 := fun p => scan (fun n => slice (v n) p) n

theorem part1_best (v : ℕ → Vec F S1x1x256x512 .f32) : k0_pay14 (v 0) (v 1) (v 2) (v 3) (v 4) = bestV v 4 := rfl
theorem part1_scan (v : ℕ → Vec F S1x1x256x512 .f32) : k0_pay15 (v 0) (v 1) (v 2) (v 3) (v 4) = scanV v 4 := rfl

theorem part2_best (v : ℕ → Vec F S1x1x256x512 .f32) :
    k0_pay33 (bestV v 4) (k0_pay16 (v 5)) (v 6) (v 7) (v 8) (v 9) (v 10) = bestV v 10 := rfl
theorem part2_scan (v : ℕ → Vec F S1x1x256x512 .f32) :
    k0_pay34 (bestV v 4) (scanV v 4) (k0_pay16 (v 5)) (v 6) (v 7) (v 8) (v 9) (v 10) = scanV v 10 := rfl
theorem part3_best (v : ℕ → Vec F S1x1x256x512 .f32) :
    k0_pay49 (bestV v 10) (v 11) (v 12) (v 13) (v 14) (v 15) = bestV v 15 := rfl
theorem part3_scan (v : ℕ → Vec F S1x1x256x512 .f32) :
    k0_pay50 (bestV v 10) (scanV v 10) (v 11) (v 12) (v 13) (v 14) (v 15) = scanV v 15 := rfl

/-- The labels of a block of pixels, from the slices of its classes and its masks. -/
def labels (v : ℕ → Vec F S1x1x256x512 .f32) (mk : Vec F S1x256x512 .i32) : IVec S1x256x512 32 :=
  shapeCast S1x256x512 (fun p => IntOp.addi (IntOp.addi (IntOp.muli (shapeCast S256x512 mk shapeCasts_S1x256x512_S256x512 p) 19#32)
    (scanV v 18 p)) (IntOp.muli (IntOp.andi (BitVec.ofNat 32 (p 1).val) 15#32) 513#32)) shapeCasts_S256x512_S1x256x512

theorem last_part (v : ℕ → Vec F S1x1x256x512 .f32) (mk : Vec F S1x256x512 .i32) :
    k0_pay1 (bestV v 15) (scanV v 15) (v 16) (v 17) (v 18) mk = labels v mk := by
  unfold k0_pay1 labels
  refine congrArg (fun f => shapeCast S1x256x512 f shapeCasts_S256x512_S1x256x512) (funext fun p => ?_)
  have hcol : iota .tc S256x512 32 [1] iota_S256x512_d1_w32 p = BitVec.ofNat 32 (p 1).val := by
    simp [iota]
  show IntOp.addi (IntOp.addi _ _) (IntOp.muli (IntOp.andi (iota .tc S256x512 32 [1] iota_S256x512_d1_w32 p) _) _) = _
  rw [hcol]; rfl

/-- The pixel `(r, c)` of class `n` in a block of logits. -/
def at_ (n r c : ℕ) (hr : r < 256) (hc : c < 512) : S1x19x256x512.Idx
  | 0 => ⟨0, by decide⟩ | 1 => ⟨n % 19, Nat.mod_lt _ (by decide)⟩ | 2 => ⟨r, hr⟩ | 3 => ⟨c, hc⟩

/-- Class `n` of a block of logits, as the body reads it. -/
def classOf (X : S1x19x256x512.Idx → F .f32) (n : ℕ) : Vec F S1x1x256x512 .f32 :=
  fun x => X (at_ n (x 2).val (x 3).val (x 2).isLt (x 3).isLt)

/-- The labels of a block, pixel by pixel. -/
def blockLabels (X : S1x19x256x512.Idx → F .f32) (M : S1x256x512.Idx → BitVec 32) : S1x256x512.Idx → BitVec 32 :=
  fun y => label (fun n => X (at_ n (y 1).val (y 2).val (y 1).isLt (y 2).isLt)) (M y) (BitVec.ofNat 32 (y 2).val)

theorem place_two (p : S256x512.Idx) : (S256x512.rowMajor p).val = (p 0).val * 512 + (p 1).val :=
  Shape.rowMajor_val_two p
theorem place_three (p : S1x256x512.Idx) : (S1x256x512.rowMajor p).val = (p 1).val * 512 + (p 2).val := by
  have h : (S1x256x512.rowMajor p).val = ((p 0).val * 256 + (p 1).val) * 512 + (p 2).val := Shape.rowMajor_val_three p
  have h0 : (p 0).val < 1 := (p 0).isLt
  omega
theorem place_four (p : S1x1x256x512.Idx) : (S1x1x256x512.rowMajor p).val = (p 2).val * 512 + (p 3).val := by
  have h : (S1x1x256x512.rowMajor p).val = (((p 0).val * 1 + (p 1).val) * 256 + (p 2).val) * 512 + (p 3).val :=
    Shape.rowMajor_val_four p
  have h0 : (p 0).val < 1 := (p 0).isLt
  have h1 : (p 1).val < 1 := (p 1).isLt
  omega

/-- A pixel as an index of one class's slice. -/
def inSlice (p : S256x512.Idx) : S1x1x256x512.Idx
  | 0 => ⟨0, by decide⟩ | 1 => ⟨0, by decide⟩ | 2 => p 0 | 3 => p 1

theorem slice_apply (v : Vec F S1x1x256x512 .f32) (p : S256x512.Idx) : slice v p = v (inSlice p) :=
  shapeCast_apply v _ p (inSlice p) ((place_four _).trans (place_two p).symm)

/-- A block's pixel as an index of the table of pixels. -/
def pix (y : S1x256x512.Idx) : S256x512.Idx
  | 0 => y 1 | 1 => y 2

theorem labels_classOf (X : S1x19x256x512.Idx → F .f32) (M : S1x256x512.Idx → BitVec 32) :
    labels (classOf X) M = blockLabels X M := by
  funext y
  unfold labels
  rw [shapeCast_apply _ shapeCasts_S256x512_S1x256x512 y (pix y) ((place_two (pix y)).trans (place_three y).symm),
    shapeCast_apply M shapeCasts_S1x256x512_S256x512 (pix y) y ((place_three y).trans (place_two (pix y)).symm)]
  unfold scanV blockLabels label
  have h : (fun n => slice (classOf X n) (pix y)) = fun n => X (at_ n (y 1).val (y 2).val (y 1).isLt (y 2).isLt) := by
    funext n; rw [slice_apply]; rfl
  rw [h]
  rfl

theorem body_same : @cc1__argmax_label_body F _ = @cc0__argmax_label_body F _ := rfl

section Body

variable {U : Type} [URA U]
variable (d : Dev nD)
variable {R : sProp (MT nD τ sig (HIx 2) (Elt F) ℕ U ℕ)} {α : Type} {Q : α → sProp (MT nD τ sig (HIx 2) (Elt F) ℕ U ℕ)}
variable {q : PosShare TreeShare} {X : S1x19x256x512.Idx → F .f32} {M : S1x256x512.Idx → BitVec 32}

/-- A load of class `n` of the block of logits goes on at that class. -/
theorem load_class {n : ℕ} (hn : n < 19 := by decide) {a2 : Memref sig .tc .vmem S1x19x256x512 .f32} {inb}
    {hl : a2.view.LoadsAt (Rect.unit (s := S1x19x256x512) ![0, n, 0, 0] S1x1x256x512.size inb).toLoadRect}
    {k : Vec F S1x1x256x512 .f32 → Prog (TpuEff nD τ sig (Elt F) Λ₀ .tc) α}
    (h : iprop(owns (Val := Elt F) (T d) a2 q X ∗ R) ⊢ wp frame (wpE (defs₀ (F := F)) Variants.none (T d) none) Set.univ (k (classOf X n)) Q) :
    iprop(owns (Val := Elt F) (T d) a2 q X ∗ R) ⊢ wp frame (wpE (defs₀ (F := F)) Variants.none (T d) none) Set.univ
      (.op (.load a2 (Rect.unit (s := S1x19x256x512) ![0, n, 0, 0] S1x1x256x512.size inb).toLoadRect hl) k) Q := by
  refine load_own (F := F) (s := S1x19x256x512) (e := .f32) _ (T d) none Set.univ ?_
  have e : (fun x => X ((Rect.unit (s := S1x19x256x512) ![0, n, 0, 0] S1x1x256x512.size inb).toLoadRect.idx x)) = classOf X n := by
    funext x
    refine congrArg X (funext fun a => Fin.ext ?_)
    have h0 : (x 0).val < 1 := (x 0).isLt
    have h1 : (x 1).val < 1 := (x 1).isLt
    match a with
    | 0 => show 0 + 1 * (x 0).val = 0; omega
    | 1 => show n + 1 * (x 1).val = n % 19; rw [Nat.mod_eq_of_lt hn]; omega
    | 2 => show 0 + 1 * (x 2).val = (x 2).val; omega
    | 3 => show 0 + 1 * (x 3).val = (x 3).val; omega
  rw [e]; exact h

theorem block_whole (x : S1x256x512.Idx) (inb) :
    (Rect.unit (s := S1x256x512) ![0, 0, 0] S1x256x512.size inb).emb x = x := by
  funext a; refine Fin.ext ?_
  match a with
  | 0 => show 0 + 1 * (x 0).val = _; omega
  | 1 => show 0 + 1 * (x 1).val = _; omega
  | 2 => show 0 + 1 * (x 2).val = _; omega

/-- The body leaves the labels of its block. -/
theorem body_run (i : grid0.Coords) (a2 : Memref sig .tc .vmem S1x19x256x512 .f32) (h2 : a2.IsWhole) (a3 : Memref sig .tc .vmem S1x256x512 .i32) (h3 : a3.IsWhole)
    (a4 : Memref sig .tc .vmem S1x256x512 .i32) (h4 : a4.IsWhole) (q q' : PosShare TreeShare) (Z : S1x256x512.Idx → BitVec 32) :
    iprop(owns (Val := Elt F) (T d) a2 q X ∗ owns (Val := Elt F) (T d) a3 q' M ∗ owns (Val := Elt F) (T d) a4 fullShare Z ∗ R)
      ⊢ (wp frame (wpE (defs₀ (F := F)) Variants.none (T d) none) Set.univ (cc0__argmax_label_body i a2 h2 a3 h3 a4 h4)
          fun _ => iprop(owns (Val := Elt F) (T d) a2 q X ∗ owns (Val := Elt F) (T d) a3 q' M
            ∗ owns (Val := Elt F) (T d) a4 fullShare (blockLabels (F := F) X M) ∗ R) : sProp (MT nD τ sig (HIx 2) (Elt F) ℕ U ℕ)) := by
  rw [cc0__argmax_label_body_eq_skeleton]; unfold cc0__argmax_label_body_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iterate 19 refine load_class (F := F) d (by decide) ?_
  refine BI.Entails.trans swap_two ?_
  refine load_own (F := F) (s := S1x256x512) (e := .i32) _ (T d) none Set.univ ?_
  refine BI.Entails.trans third_first ?_
  refine load_own (F := F) (s := S1x256x512) (e := .i32) _ (T d) none Set.univ ?_
  beta_reduce
  refine store_own (F := F) (s := S1x256x512) (e := .i32) _ (T d) none Set.univ fun X' hX' _ => ?_
  rw [wp_ret]
  have e : X' = blockLabels (F := F) X M := by
    funext y
    have := hX' y
    rw [block_whole] at this
    rw [this, part1_best (classOf X), part1_scan (classOf X), part2_best (classOf X), part2_scan (classOf X), part3_best (classOf X), part3_scan (classOf X)]
    rw [show (fun x => M ((Rect.unit (s := S1x256x512) ![0, 0, 0] S1x256x512.size inb_S1x256x512_S1x256x512_0_0_0).toLoadRect.idx x)) = M from
      funext fun x => congrArg M (block_whole x _), last_part (classOf X), labels_classOf]
  subst e
  iintro ⟨H4, H3, H2, HR⟩
  imodintro
  isplitl [H2]; · iexact H2
  isplitl [H3]; · iexact H3
  isplitl [H4]; · iexact H4
  iexact HR

end Body

end Cert.Proof.LabelBody

end
-- ==== Proof.Pieces.lean ====
/-
  How the labels and the table of counts are dealt out to the thirty-two tiles: the slabs tile the labels, the rows tile the
  table, and an array owned whole is its pieces owned, each at its part of the contents.
-/
module

public import proofs.«01_k».proof.Proof.LabelBody

@[expose] public section

noncomputable section

namespace Cert.Proof.Pieces

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Tile Cert.Proof.Hist

variable {F : FTy → Type} [FloatOps F]

/-- A tile: its SparseCore and its subcore. -/
abbrev TileIx : Type := Fin 2 × Fin 16

/-- A tile's grid point. -/
def gridAt (t : TileIx) : grid2.Coords :=
  fun | 0 => t.1 | 1 => t.2 | ⟨_ + 2, h⟩ => absurd h (Nat.not_lt.2 (Nat.le_add_left _ _))

/-- A tile's number among the thirty-two. -/
def num (t : TileIx) : ℕ := 2 * t.2.val + t.1.val

theorem num_lt (t : TileIx) : num t < 32 := by unfold num; omega

/-- The tile of a number. -/
def ofNum (n : ℕ) : TileIx := (⟨n % 2, Nat.mod_lt _ (by decide)⟩, ⟨n / 2 % 16, Nat.mod_lt _ (by decide)⟩)

theorem ofNum_num (t : TileIx) : ofNum (num t) = t := by
  obtain ⟨⟨c, hc⟩, ⟨s, hs⟩⟩ := t
  unfold ofNum num
  refine Prod.ext (Fin.ext ?_) (Fin.ext ?_) <;> dsimp only <;> omega

theorem num_ofNum {n : ℕ} (h : n < 32) : num (ofNum n) = n := by
  unfold ofNum num; dsimp only; omega

theorem slab_off : ∀ c : Fin 2, ∀ s : Fin 16, k2_off1 (gridAt (c, s)) = ![(2 * s.val + c.val) / 8, 64 * ((2 * s.val + c.val) % 8), 0] := by
  decide +kernel

theorem row_off : ∀ c : Fin 2, ∀ s : Fin 16, k2_off35 (gridAt (c, s)) = ![2 * s.val + c.val, 0] := by
  decide +kernel

/-- A tile's slab of the labels, as a rectangle. -/
abbrev slabRect (t : TileIx) : Rect S4x512x512 := Rect.unit (s := S4x512x512) (k2_off1 (gridAt t)) S1x64x512.size (k2_off1_inb (gridAt t))
/-- A tile's row of the table, as a rectangle. -/
abbrev rowRect (t : TileIx) : Rect S32x512 := Rect.unit (s := S32x512) (k2_off35 (gridAt t)) S1x512.size (k2_off35_inb (gridAt t))

theorem mem_slab (t : TileIx) (y : S4x512x512.Idx) : y ∈ (slabRect t).set ↔ (y 0).val = num t / 8 ∧ (y 1).val / 64 = num t % 8 := by
  rw [show (y ∈ (slabRect t).set) ↔ _ from Rect.mem_set_unit, slab_off t.1 t.2]
  have h1 : (y 1).val < 512 := (y 1).isLt
  have h2 : (y 2).val < 512 := (y 2).isLt
  constructor
  · intro h
    have h0 : num t / 8 ≤ (y 0).val ∧ (y 0).val < num t / 8 + 1 := h 0
    have h1 : 64 * (num t % 8) ≤ (y 1).val ∧ (y 1).val < 64 * (num t % 8) + 64 := h 1
    omega
  · rintro ⟨h0, h3⟩ a
    match a with
    | 0 => exact show num t / 8 ≤ (y 0).val ∧ (y 0).val < num t / 8 + 1 from by omega
    | 1 => exact show 64 * (num t % 8) ≤ (y 1).val ∧ (y 1).val < 64 * (num t % 8) + 64 from by omega
    | 2 => exact show 0 ≤ (y 2).val ∧ (y 2).val < 0 + 512 from by omega

theorem mem_row (t : TileIx) (y : S32x512.Idx) : y ∈ (rowRect t).set ↔ (y 0).val = num t := by
  rw [show (y ∈ (rowRect t).set) ↔ _ from Rect.mem_set_unit, row_off t.1 t.2]
  have h1 : (y 1).val < 512 := (y 1).isLt
  constructor
  · intro h
    have h0 : num t ≤ (y 0).val ∧ (y 0).val < num t + 1 := h 0
    omega
  · intro h0 a
    match a with
    | 0 => exact show num t ≤ (y 0).val ∧ (y 0).val < num t + 1 from by omega
    | 1 => exact show 0 ≤ (y 1).val ∧ (y 1).val < 0 + 512 from by omega

theorem num_inj {t t' : TileIx} (h : num t = num t') : t = t' := by rw [← ofNum_num t, h, ofNum_num]

theorem slabs_apart (t t' : TileIx) (h : t ≠ t') : Disjoint (slabRect t).set (slabRect t').set :=
  Finset.disjoint_left.mpr fun y hy hy' => h <| num_inj <| by
    have := (mem_slab t y).mp hy; have := (mem_slab t' y).mp hy'; omega

theorem rows_apart (t t' : TileIx) (h : t ≠ t') : Disjoint (rowRect t).set (rowRect t').set :=
  Finset.disjoint_left.mpr fun y hy hy' => h <| num_inj <| ((mem_row t y).mp hy).symm.trans ((mem_row t' y).mp hy')

theorem slabs_all : (Finset.univ : Finset TileIx).biUnion (fun t => (slabRect t).set) = Finset.univ := by
  refine Finset.eq_univ_iff_forall.mpr fun y => Finset.mem_biUnion.mpr ⟨ofNum (8 * (y 0).val + (y 1).val / 64), Finset.mem_univ _, (mem_slab _ y).mpr ?_⟩
  have h0 : (y 0).val < 4 := (y 0).isLt
  have h1 : (y 1).val < 512 := (y 1).isLt
  rw [num_ofNum (by omega)]; omega

theorem rows_all : (Finset.univ : Finset TileIx).biUnion (fun t => (rowRect t).set) = Finset.univ := by
  refine Finset.eq_univ_iff_forall.mpr fun y => Finset.mem_biUnion.mpr ⟨ofNum (y 0).val, Finset.mem_univ _, (mem_row _ y).mpr ?_⟩
  have h0 : (y 0).val < 32 := (y 0).isLt
  rw [num_ofNum h0]

/-- Where a tile's slab lies in the labels: image `num / 8`, rows from `64 * (num % 8)`. -/
def slabAt (n : ℕ) (hn : n < 32) (x : S64x512.Idx) : S4x512x512.Idx
  | 0 => ⟨n / 8, show n / 8 < 4 by omega⟩
  | 1 => ⟨64 * (n % 8) + (x 0).val, show _ < 512 by have : (x 0).val < 64 := (x 0).isLt; omega⟩
  | 2 => x 1

/-- A tile's slab of an array of labels. -/
def slabOf (X : S4x512x512.Idx → BitVec 32) (n : ℕ) (hn : n < 32) : S64x512.Idx → BitVec 32 := fun x => X (slabAt n hn x)

theorem slabOf_congr (X : S4x512x512.Idx → BitVec 32) {n n' : ℕ} (e : n = n') {hn : n < 32} {hn' : n' < 32} : slabOf X n hn = slabOf X n' hn' := by
  subst e; rfl

/-- A column of the table as an index of a row. -/
def colIx (y : S32x512.Idx) : S512.Idx
  | 0 => y 1

/-- The table of counts of an array of labels: row `w` the sums of tile `w`'s bins. -/
def counts (X : S4x512x512.Idx → BitVec 32) : S32x512.Idx → F .f32 :=
  fun y => reduced (hist (slabOf X (y 0).val (y 0).isLt) 32768) (colIx y)

/-- A slab's pixel before its leading axis of one is dropped. -/
def lead (x : S64x512.Idx) : S1x64x512.Idx
  | 0 => ⟨0, by decide⟩ | 1 => x 0 | 2 => x 1

/-- A row's bin before its leading axis of one is dropped. -/
def leadRow (x : S512.Idx) : S1x512.Idx
  | 0 => ⟨0, by decide⟩ | 1 => x 0

theorem lead_eq (x : S64x512.Idx) : Shape.reshapeEquiv squeezes_S1x64x512_S64x512.numel_eq x = lead x := by
  refine Shape.reshapeEquiv_eq_of_rowMajor _ ?_
  have h2 : (S64x512.rowMajor x).val = (x 0).val * 512 + (x 1).val := Shape.rowMajor_val_two x
  have h3 : (S1x64x512.rowMajor (lead x)).val = (0 * 64 + (x 0).val) * 512 + (x 1).val := Shape.rowMajor_val_three (lead x)
  omega

theorem leadRow_eq (x : S512.Idx) : Shape.reshapeEquiv squeezes_S1x512_S512.numel_eq x = leadRow x := by
  refine Shape.reshapeEquiv_eq_of_rowMajor _ ?_
  have h1 : (S512.rowMajor x).val = (x 0).val := Shape.rowMajor_val_one x
  have h2 : (S1x512.rowMajor (leadRow x)).val = 0 * 512 + (x 0).val := Shape.rowMajor_val_two (leadRow x)
  omega

theorem slab_part (X : S4x512x512.Idx → BitVec 32) (t : TileIx) (x : S64x512.Idx) :
    X ((slabRect t).emb (Shape.reshapeEquiv squeezes_S1x64x512_S64x512.numel_eq x)) = slabOf X (num t) (num_lt t) x := by
  rw [lead_eq]
  unfold slabOf
  congr 1
  funext a
  have h : ∀ a, ((slabRect t).emb (lead x) a).val = k2_off1 (gridAt t) a + 1 * (lead x a).val := fun _ => rfl
  rw [slab_off t.1 t.2] at h
  refine Fin.ext ((h a).trans ?_)
  match a with
  | 0 => show num t / 8 + 1 * 0 = num t / 8; omega
  | 1 => show 64 * (num t % 8) + 1 * (x 0).val = 64 * (num t % 8) + (x 0).val; omega
  | 2 => show 0 + 1 * (x 1).val = (x 1).val; omega

theorem row_part (X : S4x512x512.Idx → BitVec 32) (t : TileIx) (x : S512.Idx) :
    counts (F := F) X ((rowRect t).emb (Shape.reshapeEquiv squeezes_S1x512_S512.numel_eq x)) = reduced (hist (slabOf X (num t) (num_lt t)) 32768) x := by
  rw [leadRow_eq]
  have h : ∀ a, ((rowRect t).emb (leadRow x) a).val = k2_off35 (gridAt t) a + 1 * (leadRow x a).val := fun _ => rfl
  rw [row_off t.1 t.2] at h
  have h0 : ((rowRect t).emb (leadRow x) 0).val = num t := (h 0).trans (show num t + 1 * 0 = num t by omega)
  have h1 : colIx ((rowRect t).emb (leadRow x)) = x := by
    funext a
    match a with
    | 0 => exact Fin.ext ((h 1).trans (show 0 + 1 * (x 0).val = (x 0).val by omega))
  unfold counts
  rw [h1]
  congr 2
  exact slabOf_congr X h0

section Owned

variable {U : Type} [URA U]

local notation "𝕄" => MT nD τ sig (HIx 2) (Elt F) ℕ U ℕ

/-- A memref owned is its squeeze owned, at the same contents read through it. -/
theorem owns_squeezed {c : Thread nD τ} {sp : Space} {s s' : Shape} {e : EltTy} (m : Memref sig c.2.kind sp s e) (h : s.Squeezes s')
    (q : PosShare TreeShare) {X : s.Idx → Elt F e} {Y : s'.Idx → Elt F e} (hXY : ∀ x, X (Shape.reshapeEquiv h.numel_eq x) = Y x) :
    (owns (Val := Elt F) c m q X : sProp 𝕄) = owns (Val := Elt F) c (m.squeeze s' h) q Y := by
  have hread : ∀ g, (m.squeeze s' h).view.read (Elt F) g = fun x => m.view.read (Elt F) g (Shape.reshapeEquiv h.numel_eq x) := fun g => rfl
  have hiff : ∀ g, m.view.read (Elt F) g = X ↔ (m.squeeze s' h).view.read (Elt F) g = Y := fun g => by
    rw [hread]
    constructor
    · rintro rfl; exact funext hXY
    · intro hg
      funext x
      have := congrFun hg ((Shape.reshapeEquiv h.numel_eq).symm x)
      simp only [Equiv.apply_symm_apply] at this
      rw [this, ← hXY, Equiv.apply_symm_apply]
  unfold owns
  simp only [hiff]
  rw [show (m.squeeze s' h).view.set = m.view.set from View.set_reshape m.view h.numel_eq]

variable (c : Thread nD τ)

/-- The labels owned whole are the slabs owned. -/
theorem slabs_owned (m : Memref sig c.2.kind .hbm S4x512x512 .i32) (X : S4x512x512.Idx → BitVec 32) :
    (owns (Val := Elt F) c m fullShare X : sProp 𝕄)
      = bigSep Finset.univ fun t : TileIx => owns (Val := Elt F) c ((m.slice (slabRect t) (fun _ => rfl)).squeeze S64x512 squeezes_S1x64x512_S64x512) fullShare
          (slabOf X (num t) (num_lt t)) := by
  rw [← BI.bigSep_congr fun t _ => owns_squeezed (m.slice (slabRect t) (fun _ => rfl)) squeezes_S1x64x512_S64x512 fullShare (X := fun j => X ((slabRect t).emb j)) (slab_part X t)]
  exact BI.equiv_iff.mp ⟨owns_rects (Val := Elt F) c m fullShare slabRect (fun _ _ => rfl) slabs_apart slabs_all X,
    owns_of_rects (Val := Elt F) c m fullShare slabRect (fun _ _ => rfl) slabs_apart slabs_all X⟩

/-- The table owned whole at the counts is its rows owned, each at its tile's sums. -/
theorem rows_owned (m : Memref sig c.2.kind .hbm S32x512 .f32) (X : S4x512x512.Idx → BitVec 32) :
    (bigSep Finset.univ fun t : TileIx => owns (Val := Elt F) c ((m.slice (rowRect t) (fun _ => rfl)).squeeze S512 squeezes_S1x512_S512) fullShare
          (reduced (hist (slabOf X (num t) (num_lt t)) 32768)) : sProp 𝕄)
      ⊢ owns (Val := Elt F) c m fullShare (counts (F := F) X) := by
  rw [← BI.bigSep_congr fun t _ => owns_squeezed (m.slice (rowRect t) (fun _ => rfl)) squeezes_S1x512_S512 fullShare (X := fun j => counts (F := F) X ((rowRect t).emb j)) (row_part X t)]
  exact owns_of_rects (Val := Elt F) c m fullShare rowRect (fun _ _ => rfl) rows_apart rows_all _

theorem owned_some {sp : Space} {s : Shape} {e : EltTy} (m : Memref sig c.2.kind sp s e) (X : s.Idx → Elt F e) :
    (owns (Val := Elt F) c m fullShare X : sProp 𝕄) ⊢ iprop(∃ Z : s.Idx → Elt F e, owns (Val := Elt F) c m fullShare Z) := by
  iintro H; iexists _; iexact H

/-- The table owned at any contents gives its rows, each at some contents. -/
theorem rows_dealt (m : Memref sig c.2.kind .hbm S32x512 .f32) (G : S32x512.Idx → F .f32) :
    (owns (Val := Elt F) c m fullShare G : sProp 𝕄)
      ⊢ bigSep Finset.univ fun t : TileIx => iprop(∃ Z : S512.Idx → F .f32, owns (Val := Elt F) c ((m.slice (rowRect t) (fun _ => rfl)).squeeze S512 squeezes_S1x512_S512) fullShare Z) := by
  refine (owns_rects (Val := Elt F) c m fullShare rowRect (fun _ _ => rfl) rows_apart rows_all G).trans (bigSep_mono fun t _ => ?_)
  rw [owns_squeezed (m.slice (rowRect t) (fun _ => rfl)) squeezes_S1x512_S512 fullShare (Y := fun x => G ((rowRect t).emb (Shape.reshapeEquiv squeezes_S1x512_S512.numel_eq x))) (fun _ => rfl)]
  exact owned_some c _ _

end Owned

end Cert.Proof.Pieces
-- ==== Proof.Setup.lean ====
/-
  The program as the launch theorem sees it, its resource algebra, and one TensorCore call as a region: entered from any contents of
  the buffers, left at those contents with the call's arrays as its body wrote them.
-/
module

public import proofs.«01_k».proof.Proof.Tile
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Pipeline.FrameTail

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's signals are kept apart from every scoped cell, and no task shares a SparseCore's buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; the pipelines' rounds; the copies' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP : Emb UP 𝕄).LandsIn (upEmb : UEmb _ 𝕄) := by unfold EP; infer_instance

abbrev adm : (p : Fin 3) → (pcfgs (F := F) p).Adm := fun p => (cfgs p).toPCfg_adm

/-- A device's buffers, everything at some contents. -/
abbrev Vals (F : FTy → Type) : Type := Dev nD → Valuation τ sig (Elt F)

section Region

variable [FloatOps F]

/-- What every body leaves in its staging buffers. -/
abbrev Afters (F : FTy → Type) : Type := (p : Fin 3) → Dev nD → (w : Fin (cfgs p).W) → Fin (cfgs p).N → ((cfgs p).win w).block.Idx → Elt F ((cfgs p).win w).elt

variable (V : Vals F) (aft : Afters F) (O : Dev nD → CellTallies nD τ sig (HIx 2)) (b : ℕ)

/-- The waits recorded so far stay below a bound. -/
def within (d : Dev nD) : Set (SemLoc sig × HIx 2) := {p | (K (F := F)).lev (T d, p.1) p.2 ≤ b}

/-- The calls' data, each entered at the contents `V`. -/
def pdats (p : Fin 3) (d : Dev nD) : Pipeline.Dat τ (Elt F) (HIx 2) ℕ UU ℕ (Pipeline.pin (pcfgs (F := F)) adm p) d where
  A w := V d (Proc.devRef .tc (Pipeline.arrRef (cfgs p).spec w))
  after w t := aft p d w t
  Φ _ := Pipeline.scopedRest (cfgs p).spec d
  q _ := fullShare
  owed _ := O d
  recorded _ := within (F := F) b d

/-- The TensorCore owes `O` and has waited below the bound. -/
def tcOwes (d : Dev nD) : sProp 𝕄 := iprop(∃ W, ⌜∀ p ∈ W, (K (F := F)).lev (T d, p.1) p.2 ≤ b⌝ ∗ owes (T d) (O d) W)

/-- The buffers after call `p`. -/
def afterCall (p : Fin 3) : Vals F := fun d => Pipeline.afterRegion (pdats V aft O b p d) (V d)

set_option backward.isDefEq.respectTransparency.types false in
/-- One TensorCore call, from the buffers at `V` to the buffers after it. -/
def region (p : Fin 3) (hp : Pipeline.LaunchFacts (nD := nD) (τ := τ) cfgs p) (hO : ∀ d g, O d g none = 0)
    (hbody : ∀ d, Pipeline.BodyObligation (pdats V aft O b p d) (defs₀ (F := F)) 𝒱₀ (none : HIx 2) Set.univ) :
    Pipeline.RegionSeg (pcfgs (F := F)) adm (pdats V aft O b) (none : HIx 2) defs₀ 𝒱₀ (K (F := F)).L (K (F := F)).lev p where
  win := hp.win.to₀
  block_pos := hp.block_pos
  stage_whole := hp.stage_whole
  K := PEmpty
  osem k := k.elim
  ho := Pipeline.OwnSemFacts.none _
  hbody d := (hbody d).loose
  hwaits d := Pipeline.cellsWaits_intro _ _ _ p d fun w s t => SparseCore.Cfg.mayWait_none (K := K (F := F)) _ (hO d)
  pre d := iprop(unscopedBufs d (fun r => V d (Proc.devRef .tc r)) ∗ tcOwes (F := F) O b d)
  post d := iprop(unscopedBufs d (fun r => afterCall V aft O b p d (Proc.devRef .tc r)) ∗ tcOwes (F := F) O b d)
  X _ := BI.emp
  Y _ := BI.emp
  Z d := Pipeline.unscopedRest (Ix := HIx 2) (Name := ℕ) (U := UU) (Lvl := ℕ) (cfgs p).spec d (fun r => V d (Proc.devRef .tc r))
  hentry d := by
    rw [Pipeline.ownSems0_none]
    have hsplit := Pipeline.arrays_of_unscopedBufs (p := p) (pcfgs (F := F)) adm (pdats V aft O b) hp.win hp.arr_whole d
      ((pdats V aft O b p d).share_full fun _ => rfl) (fun r => V d (Proc.devRef .tc r)) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold tcOwes Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats V aft O b p d).Φ 0 = Pipeline.scopedRest (cfgs p).spec d from rfl]
    iintro ⟨-, -, Hr⟩; iexact Hr
  hout d := by
    rw [Pipeline.ownSems0_none, show (pdats V aft O b p d).Φ (Fin.last _) = Pipeline.scopedRest (cfgs p).spec d from rfl]
    iintro Hr
    isplitr; · iempintro
    isplitr; · iempintro
    iexact Hr
  hexit d := by
    have hjoin := Pipeline.unscopedBufs_of_arrays (p := p) (pcfgs (F := F)) adm (Ix := HIx 2) (Name := ℕ) (U := UU) (Lvl := ℕ) hp.win hp.arr_whole d
      (pdats V aft O b) ((pdats V aft O b p d).share_full fun _ => rfl) (fun r => V d (Proc.devRef .tc r))
      (fun r => afterCall V aft O b p d (Proc.devRef .tc r)) ((pdats V aft O b p d).arrAt · (cfgs p).N)
      (fun w => (Pipeline.afterRegion_arr (pdats V aft O b p d) (V d) hp.win.arr_inj w).symm)
      (fun r hr => Pipeline.afterRegion_of_not_arr (pdats V aft O b p d) (V d) fun w h => hr (h ▸ Finset.mem_image.mpr ⟨w, Finset.mem_univ _, rfl⟩))
    iintro ⟨Ha, HO, -, Hrest⟩
    imodintro
    isplitl [Ha Hrest]
    · iapply hjoin; isplitl [Ha] <;> iassumption
    unfold tcOwes Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

end Region

end Cert.Proof.Setup

end
-- ==== Proof.Task.lean ====
/-
  The two SparseCore calls' tasks as the launch theorem takes them: what a tile is given and brings back, and its run from the
  processor's own scratch.
-/
module

public import proofs.«01_k».proof.Proof.Pieces
public import proofs.«01_k».proof.Proof.Setup

@[expose] public section

noncomputable section

namespace Cert.Proof.Task

open Cert.KernelIdeal Cert.KernelIdeal.Gen
open Idealize.ShloMosaic
open Idealize.ShloMosaic.SparseCore (S V T)
open Idealize.ShloMosaic.SparseCore.Cfg (HIx ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem
open Cert.Proof.Tile Cert.Proof.Hist Cert.Proof.Pieces Cert.Proof.Setup

variable {F : FTy → Type} [FloatOps F]

local notation "𝕄" => MT nD τ sig (HIx 2) (Elt F) ℕ UU ℕ

/-- A tile's processor. -/
abbrev tileOf (d : Dev nD) (t : TileIx) : Thread nD τ := V d (cV (gridAt t)) (jV (gridAt t))

section Own

variable (d : Dev nD) (c : Fin τ.nSC) (i : Fin τ.nSub)

/-- Three distinct scratch buffers of a subcore's are among its own buffers. -/
theorem three_bufs (r0 r1 r2 : Ref sig .scVector) (h0 : ((Proc.scVector c i : Proc τ).devRef r0).owner = .proc (.scVector c i))
    (h1 : ((Proc.scVector c i : Proc τ).devRef r1).owner = .proc (.scVector c i)) (h2 : ((Proc.scVector c i : Proc τ).devRef r2).owner = .proc (.scVector c i))
    (h10 : r1 ≠ r0) (h20 : r2 ≠ r0) (h21 : r2 ≠ r1) :
    ∃ R : sProp 𝕄, (ownBufs (V d c i) : sProp 𝕄) = iprop((∃ Z, owns (Val := Elt F) (V d c i) (Memref.whole r0) fullShare Z)
      ∗ (∃ Z, owns (Val := Elt F) (V d c i) (Memref.whole r1) fullShare Z) ∗ (∃ Z, owns (Val := Elt F) (V d c i) (Memref.whole r2) fullShare Z) ∗ R) := by
  have ne : ∀ {a b : Ref sig .scVector}, a ≠ b → (Proc.scVector c i : Proc τ).devRef a ≠ (Proc.scVector c i : Proc τ).devRef b :=
    fun h e => h (Proc.devRef_injective _ e)
  refine ⟨bigSep ((((ownRefs (τ := τ) (.scVector c i)).erase ((Proc.scVector c i : Proc τ).devRef r0)).erase ((Proc.scVector c i : Proc τ).devRef r1)).erase
    ((Proc.scVector c i : Proc τ).devRef r2)) fun b => iprop(∃ f, ((d, b) : Loc nD τ sig) ↦{fullShare} f), ?_⟩
  simp only [owns_whole]
  unfold ownBufs
  refine (SparseCore.bigSep_erase' (SparseCore.Cfg.mem_ownRefs_of_owner h0)).trans ?_
  rw [SparseCore.bigSep_erase' (Finset.mem_erase.mpr ⟨ne h10, SparseCore.Cfg.mem_ownRefs_of_owner h1⟩),
    SparseCore.bigSep_erase' (Finset.mem_erase.mpr ⟨ne h21, Finset.mem_erase.mpr ⟨ne h20, SparseCore.Cfg.mem_ownRefs_of_owner h2⟩⟩)]

/-- Two distinct scoped semaphores of a subcore's are among its own semaphores. -/
theorem two_sems (s s' : DmaSem sig) (hs : (SemLoc.dma s : SemLoc sig).isScoped .scVector = true) (hs' : (SemLoc.dma s' : SemLoc sig).isScoped .scVector = true)
    (hne : s' ≠ s) :
    ∃ R : sProp 𝕄, (ownSems0 (V d c i) : sProp 𝕄) = iprop(semVal (V d c i, .dma s) 0 ∗ semVal (V d c i, .dma s') 0 ∗ R) := by
  refine ⟨bigSep (((ownCells (V d c i)).erase (V d c i, SemLoc.dma s)).erase (V d c i, SemLoc.dma s')) fun g => semVal g 0, ?_⟩
  unfold ownSems0
  refine (SparseCore.bigSep_erase' (mem_ownCells.mpr ⟨rfl, hs⟩ : (V d c i, SemLoc.dma s) ∈ ownCells (V d c i))).trans ?_
  rw [SparseCore.bigSep_erase' (Finset.mem_erase.mpr ⟨fun e => hne (SemLoc.dma.inj (Prod.ext_iff.mp e).2),
    (mem_ownCells.mpr ⟨rfl, hs'⟩ : (V d c i, SemLoc.dma s') ∈ ownCells (V d c i))⟩)]

end Own

/-- What a tile is given: its slab of the labels, and its row of the table at any contents. -/
def given (a2 : Memref sig .scVector .hbm S4x512x512 .i32) (a3 : Memref sig .scVector .hbm S32x512 .f32) (X : S4x512x512.Idx → BitVec 32)
    (d : Dev nD) (t : TileIx) : sProp 𝕄 :=
  iprop(owns (Val := Elt F) (tileOf d t) (slab (gridAt t) a2) fullShare (slabOf X (num t) (num_lt t))
    ∗ ∃ Z : S512.Idx → F .f32, owns (Val := Elt F) (tileOf d t) (outRow (gridAt t) a3) fullShare Z)

/-- What it brings back: the slab unchanged, and the row at the slab's sums. -/
def brought (a2 : Memref sig .scVector .hbm S4x512x512 .i32) (a3 : Memref sig .scVector .hbm S32x512 .f32) (X : S4x512x512.Idx → BitVec 32)
    (d : Dev nD) (t : TileIx) : sProp 𝕄 :=
  iprop(owns (Val := Elt F) (tileOf d t) (slab (gridAt t) a2) fullShare (slabOf X (num t) (num_lt t))
    ∗ owns (Val := Elt F) (tileOf d t) (outRow (gridAt t) a3) fullShare (reduced (F := F) (hist (slabOf X (num t) (num_lt t)) 32768)))

instance given_storable (a2 a3 X d t) : BI.Storable (upEmb : UEmb _ 𝕄) (given (F := F) a2 a3 X d t) := by unfold given; infer_instance
instance brought_storable (a2 a3 X d t) : BI.Storable (upEmb : UEmb _ 𝕄) (brought (F := F) a2 a3 X d t) := by unfold brought; infer_instance

/-- Every label of an array names a bin. -/
def LabelsOK (X : S4x512x512.Idx → BitVec 32) : Prop := ∀ y, (X y).toNat < 8224

section Run

variable (d : Dev nD) (t : TileIx)
variable (a2 : Memref sig .scVector .hbm S4x512x512 .i32) (h2 : a2.IsWhole) (a3 : Memref sig .scVector .hbm S32x512 .f32) (h3 : a3.IsWhole)
variable (a4 : Memref sig .scVector .vmem S64x512 .i32) (h4 : a4.IsWhole) (a5 : Memref sig .scVector .vmem S8224 .f32) (h5 : a5.IsWhole)
variable (a6 : Memref sig .scVector .vmem S512 .f32) (h6 : a6.IsWhole) (s7 s8 : DmaSems sig S_)
variable {X : S4x512x512.Idx → BitVec 32} {RB RS : sProp (MT nD τ sig (HIx 2) (Elt F) ℕ UU ℕ)}

theorem sorted_in {A G G' B B' B'' R C C' R' O : sProp 𝕄} :
    iprop(A ∗ emp ∗ (G ∗ G') ∗ (B ∗ B' ∗ B'' ∗ R) ∗ (C ∗ C' ∗ R') ∗ O) ⊢ iprop((A ∗ G ∗ G' ∗ B ∗ B' ∗ B'' ∗ C ∗ C' ∗ O) ∗ (R ∗ R')) := by
  iintro ⟨HA, -, ⟨HG, HG'⟩, ⟨HB, HB', HB'', HR⟩, ⟨HC, HC', HR'⟩, HO⟩
  iframe

theorem sorted_out {G G' B B' B'' R C C' R' O : sProp 𝕄} :
    iprop((G ∗ G' ∗ B ∗ B' ∗ B'' ∗ C ∗ C' ∗ O) ∗ (R ∗ R')) ⊢ iprop((G ∗ G') ∗ (B ∗ B' ∗ B'' ∗ R) ∗ (C ∗ C' ∗ R') ∗ O) := by
  iintro ⟨⟨HG, HG', HB, HB', HB'', HC, HC', HO⟩, HR, HR'⟩
  iframe

/-- A tile's task from what it is given and the processor's own scratch. -/
theorem task_run (hX : LabelsOK X) (O : CellTallies nD τ sig (HIx 2)) (W : Waits sig (HIx 2)) (hO : ∀ g, O g none = 0)
    (hB : (ownBufs (tileOf d t) : sProp 𝕄) = iprop((∃ Z, owns (Val := Elt F) (tileOf d t) a4 fullShare Z)
      ∗ (∃ Z, owns (Val := Elt F) (tileOf d t) a5 fullShare Z) ∗ (∃ Z, owns (Val := Elt F) (tileOf d t) a6 fullShare Z) ∗ RB))
    (hS : (ownSems0 (tileOf d t) : sProp 𝕄) = iprop(semVal (tileOf d t, .dma s7.sem) 0 ∗ semVal (tileOf d t, .dma s8.sem) 0 ∗ RS)) :
    iprop(levAts (K (F := F)).L (K (F := F)).lev ∗ emp ∗ given (F := F) a2 a3 X d t ∗ ownBufs (tileOf d t) ∗ ownSems0 (tileOf d t) ∗ owes (tileOf d t) O W)
      ⊢ (wp frame (wpE (defs₀ (F := F)) Setup.𝒱₀ (tileOf d t) none) Set.univ
          (cc2__sc_hist_body (gridAt t) a2 h2 a3 h3 a4 h4 a5 h5 a6 h6 s7 s8)
          fun _ => iprop(brought (F := F) a2 a3 X d t ∗ ownBufs (tileOf d t) ∗ ownSems0 (tileOf d t)
            ∗ ∃ W', ⌜∀ p ∈ W', p ∈ W ∨ p.2 = none⌝ ∗ owes (tileOf d t) O W') : sProp 𝕄) := by
  have hrun := tile_run (F := F) (U := UU) (gridAt t) d a2 h2 a3 h3 a4 h4 a5 h5 a6 h6 s7 s8 (lab := slabOf X (num t) (num_lt t)) (fun x => hX _) fullShare O W hO
  rw [hB, hS]
  unfold given brought
  exact sorted_in.trans ((BI.sep_mono hrun (BI.Entails.refl iprop(RB ∗ RS))).trans
    (BI.Entails.trans (wp_frame_r frame _ Set.univ) (wp_mono _ _ _ fun _ => sorted_out)))

end Run

end Cert.Proof.Task
-- ==== Proof.Tasks.lean ====
/-
  The launch's payloads for the two SparseCore calls, and what the launch theorem asks of each call's tasks.
-/
module

public import proofs.«01_k».proof.Proof.Task

@[expose] public section

noncomputable section

namespace Cert.Proof.Tasks

open Cert.KernelIdeal Cert.KernelIdeal.Gen
open Idealize.ShloMosaic
open Idealize.ShloMosaic.SparseCore (S V T)
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Cert.Proof.Tile Cert.Proof.Hist Cert.Proof.Pieces Cert.Proof.Setup Cert.Proof.Task

variable {F : FTy → Type} [FloatOps F]

local notation "𝕄" => MT nD τ sig (HIx 2) (Elt F) ℕ UU ℕ

variable (X : Fin 2 → Dev nD → S4x512x512.Idx → BitVec 32)

/-- The first call's labels and table, as a subcore names them. -/
abbrev lab0 : Memref sig .scVector .hbm S4x512x512 .i32 := Memref.whole main_v0_scv
abbrev tab0 : Memref sig .scVector .hbm S32x512 .f32 := Memref.whole main_v2_scv
/-- The second call's. -/
abbrev lab1 : Memref sig .scVector .hbm S4x512x512 .i32 := Memref.whole main_v1_scv
abbrev tab1 : Memref sig .scVector .hbm S32x512 .f32 := Memref.whole main_v3_scv

/-- Each call deals its labels and its table out to the tiles, and gets them back with the table at the sums. -/
def P : (K (F := F)).Pay (nD := nD) (Val := Elt F) (Name := ℕ) (U := UU) where
  st := fun q d c => match q with
    | 0 => bigSep Finset.univ fun i : Fin 16 => given (F := F) lab0 tab0 (X 0 d) d (⟨c.val, c.isLt⟩, i)
    | 1 => bigSep Finset.univ fun i : Fin 16 => given (F := F) lab1 tab1 (X 1 d) d (⟨c.val, c.isLt⟩, i)
  dn := fun q d c => match q with
    | 0 => bigSep Finset.univ fun i : Fin 16 => brought (F := F) lab0 tab0 (X 0 d) d (⟨c.val, c.isLt⟩, i)
    | 1 => bigSep Finset.univ fun i : Fin 16 => brought (F := F) lab1 tab1 (X 1 d) d (⟨c.val, c.isLt⟩, i)
  go := fun q d c i => match q with
    | 0 => given (F := F) lab0 tab0 (X 0 d) d (⟨c.val, c.isLt⟩, ⟨i.val, i.isLt⟩)
    | 1 => given (F := F) lab1 tab1 (X 1 d) d (⟨c.val, c.isLt⟩, ⟨i.val, i.isLt⟩)
  td := fun q d c i => match q with
    | 0 => brought (F := F) lab0 tab0 (X 0 d) d (⟨c.val, c.isLt⟩, ⟨i.val, i.isLt⟩)
    | 1 => brought (F := F) lab1 tab1 (X 1 d) d (⟨c.val, c.isLt⟩, ⟨i.val, i.isLt⟩)
  x := fun _ _ => iprop(emp)

instance P_storable : (P (F := F) X).IsStorable where
  st q d c := match q with
    | 0 => (inferInstance : BI.Storable (upEmb : UEmb _ 𝕄) (bigSep Finset.univ fun i : Fin 16 => given (F := F) lab0 tab0 (X 0 d) d (⟨c.val, c.isLt⟩, i)))
    | 1 => (inferInstance : BI.Storable (upEmb : UEmb _ 𝕄) (bigSep Finset.univ fun i : Fin 16 => given (F := F) lab1 tab1 (X 1 d) d (⟨c.val, c.isLt⟩, i)))
  dn q d c := match q with
    | 0 => (inferInstance : BI.Storable (upEmb : UEmb _ 𝕄) (bigSep Finset.univ fun i : Fin 16 => brought (F := F) lab0 tab0 (X 0 d) d (⟨c.val, c.isLt⟩, i)))
    | 1 => (inferInstance : BI.Storable (upEmb : UEmb _ 𝕄) (bigSep Finset.univ fun i : Fin 16 => brought (F := F) lab1 tab1 (X 1 d) d (⟨c.val, c.isLt⟩, i)))
  go q d c i := match q with
    | 0 => given_storable (F := F) lab0 tab0 (X 0 d) d (⟨c.val, c.isLt⟩, ⟨i.val, i.isLt⟩)
    | 1 => given_storable (F := F) lab1 tab1 (X 1 d) d (⟨c.val, c.isLt⟩, ⟨i.val, i.isLt⟩)
  td q d c i := match q with
    | 0 => brought_storable (F := F) lab0 tab0 (X 0 d) d (⟨c.val, c.isLt⟩, ⟨i.val, i.isLt⟩)
    | 1 => brought_storable (F := F) lab1 tab1 (X 1 d) d (⟨c.val, c.isLt⟩, ⟨i.val, i.isLt⟩)

theorem deal_same {A B : sProp 𝕄} : A ⊢ |={(Set.univ : Set ℕ)}=> iprop(A ∗ (B -∗ B)) := by
  iintro H; imodintro
  isplitl [H]; · iexact H
  iintro H; iexact H

set_option maxHeartbeats 2000000 in
theorem vecSplit (q : Fin 2) : (K (F := F)).VecSplit' (P (F := F) X) q := by
  intro d c
  match q with
  | 0 => exact deal_same (A := bigSep Finset.univ fun i : Fin 16 => given (F := F) lab0 tab0 (X 0 d) d (⟨c.val, c.isLt⟩, i))
            (B := bigSep Finset.univ fun i : Fin 16 => brought (F := F) lab0 tab0 (X 0 d) d (⟨c.val, c.isLt⟩, i))
  | 1 => exact deal_same (A := bigSep Finset.univ fun i : Fin 16 => given (F := F) lab1 tab1 (X 1 d) d (⟨c.val, c.isLt⟩, i))
            (B := bigSep Finset.univ fun i : Fin 16 => brought (F := F) lab1 tab1 (X 1 d) d (⟨c.val, c.isLt⟩, i))

/-- The second call's task is the first's. -/
theorem task_same : @cc3__sc_hist_body F _ = @cc2__sc_hist_body F _ := rfl

theorem task0 (c : Fin τ.nSC) (s : Fin τ.nSub) :
    defs₀ (F := F) (.scVector c s) 2 ()
      = SparseCore.onTile hcore2 hsub2 (fun c s => cc2__sc_hist_body (gridAt (c, s)) lab0 (Memref.isWhole_whole _) tab0 (Memref.isWhole_whole _)
          (Memref.whole cc2_scratch0) (Memref.isWhole_whole _) (Memref.whole cc2_scratch1) (Memref.isWhole_whole _)
          (Memref.whole cc2_scratch2) (Memref.isWhole_whole _) cc2_scratch3 cc2_scoped0) ⟨⟩ c s := rfl

theorem task1 (c : Fin τ.nSC) (s : Fin τ.nSub) :
    defs₀ (F := F) (.scVector c s) 3 ()
      = SparseCore.onTile hcore3 hsub3 (fun c s => cc2__sc_hist_body (gridAt (c, s)) lab1 (Memref.isWhole_whole _) tab1 (Memref.isWhole_whole _)
          (Memref.whole cc3_scratch0) (Memref.isWhole_whole _) (Memref.whole cc3_scratch1) (Memref.isWhole_whole _)
          (Memref.whole cc3_scratch2) (Memref.isWhole_whole _) cc3_scratch3 cc3_scoped0) ⟨⟩ c s := by
  rw [← task_same]; rfl

theorem widen {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'; isplitr
  · ipureintro; exact fun p hp => (hW' p hp).imp_right Or.inl
  · iexact HO

theorem sem_ne0 : cc2_scoped0.sem ≠ cc2_scratch3.sem := by decide
theorem sem_ne1 : cc3_scoped0.sem ≠ cc3_scratch3.sem := by decide

theorem tileObl0 (hX : ∀ d, LabelsOK (X 0 d)) : (K (F := F)).TileObl (D (F := F)) 𝒱 (P (F := F) X) v₀ 0 := by
  intro d c i O W hO _ _
  simp only [show (P (F := F) X).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) Setup.𝒱₀ _ Set.univ none _ _)
  have hc : ((K (F := F)).core 0 c).val < grid2.bound 0 ∧ ((K (F := F)).sub 0 i).val < grid2.bound 1 := ⟨c.isLt, i.isLt⟩
  rw [task0]; simp only [SparseCore.onTile, hc, and_self, ↓reduceDIte]
  rw [(K (F := F)).scopedBufs_V facts, SparseCore.Cfg.scopedSems0_V]
  obtain ⟨RB, hB⟩ := three_bufs (F := F) d ((K (F := F)).core 0 c) ((K (F := F)).sub 0 i) cc2_scratch0 cc2_scratch1 cc2_scratch2 rfl rfl rfl (by decide) (by decide) (by decide)
  obtain ⟨RS, hS⟩ := two_sems (F := F) d ((K (F := F)).core 0 c) ((K (F := F)).sub 0 i) cc2_scratch3.sem cc2_scoped0.sem rfl rfl sem_ne0
  exact (task_run (F := F) d (⟨c.val, c.isLt⟩, ⟨i.val, i.isLt⟩) lab0 _ tab0 _ (Memref.whole cc2_scratch0) _ (Memref.whole cc2_scratch1) _ (Memref.whole cc2_scratch2) _
    cc2_scratch3 cc2_scoped0 (hX d) O W hO hB hS).trans (wp_mono frame _ _ fun _ => widen)

theorem tileObl1 (hX : ∀ d, LabelsOK (X 1 d)) : (K (F := F)).TileObl (D (F := F)) 𝒱 (P (F := F) X) v₀ 1 := by
  intro d c i O W hO _ _
  simp only [show (P (F := F) X).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) Setup.𝒱₀ _ Set.univ none _ _)
  have hc : ((K (F := F)).core 1 c).val < grid3.bound 0 ∧ ((K (F := F)).sub 1 i).val < grid3.bound 1 := ⟨c.isLt, i.isLt⟩
  rw [task1]; simp only [SparseCore.onTile, hc, and_self, ↓reduceDIte]
  rw [(K (F := F)).scopedBufs_V facts, SparseCore.Cfg.scopedSems0_V]
  obtain ⟨RB, hB⟩ := three_bufs (F := F) d ((K (F := F)).core 1 c) ((K (F := F)).sub 1 i) cc3_scratch0 cc3_scratch1 cc3_scratch2 rfl rfl rfl (by decide) (by decide) (by decide)
  obtain ⟨RS, hS⟩ := two_sems (F := F) d ((K (F := F)).core 1 c) ((K (F := F)).sub 1 i) cc3_scratch3.sem cc3_scoped0.sem rfl rfl sem_ne1
  exact (task_run (F := F) d (⟨c.val, c.isLt⟩, ⟨i.val, i.isLt⟩) lab1 _ tab1 _ (Memref.whole cc3_scratch0) _ (Memref.whole cc3_scratch1) _ (Memref.whole cc3_scratch2) _
    cc3_scratch3 cc3_scoped0 (hX d) O W hO hB hS).trans (wp_mono frame _ _ fun _ => widen)

end Cert.Proof.Tasks
-- ==== Proof.StatsBody.lean ====
/-
  The body of the last call: from the two tables of partial counts, the two scores.
-/
module

public import proofs.«01_k».proof.Proof.Tile

@[expose] public section

set_option maxRecDepth 16384

noncomputable section

namespace Cert.Proof.StatsBody

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.OwnRules

variable {F : FTy → Type} [FloatOps F]

/-- The first score, from the two tables; -/
def score1 (A B : S32x512.Idx → F .f32) : S1x1.Idx → F .f32 := k4_pay2 (k4_pay8 A B) (k4_pay9 A B)
/-- and the second. -/
def score2 (A B : S32x512.Idx → F .f32) : S1x1.Idx → F .f32 := k4_pay3 (k4_pay6 A B) (k4_pay8 A B) (k4_pay9 A B)

theorem table_whole (x : S32x512.Idx) (inb) : (Rect.unit (s := S32x512) ![0, 0] S32x512.size inb).toLoadRect.idx x = x := by
  funext a; refine Fin.ext ?_
  match a with
  | 0 => show 0 + 1 * (x 0).val = _; omega
  | 1 => show 0 + 1 * (x 1).val = _; omega

theorem table_read (A : S32x512.Idx → F .f32) :
    (fun x => A ((Rect.unit (s := S32x512) ![0, 0] S32x512.size inb_S32x512_S32x512_0_0).toLoadRect.idx x)) = A :=
  funext fun x => congrArg A (table_whole x _)

theorem score_whole (x : S1x1.Idx) (inb) : (Rect.unit (s := S1x1) ![0, 0] S1x1.size inb).emb x = x := by
  funext a; refine Fin.ext ?_
  match a with
  | 0 => show 0 + 1 * (x 0).val = _; omega
  | 1 => show 0 + 1 * (x 1).val = _; omega

variable {U : Type} [URA U]
variable (d : Dev nD)
variable {R : sProp (MT nD τ sig (HIx 2) (Elt F) ℕ U ℕ)} {A B : S32x512.Idx → F .f32}

/-- The fourth of five resources comes first. -/
theorem fourth_first {A B C D : sProp (MT nD τ sig (HIx 2) (Elt F) ℕ U ℕ)} :
    iprop(C ∗ B ∗ A ∗ D ∗ R) ⊢ iprop(D ∗ A ∗ B ∗ C ∗ R) := by
  iintro ⟨HC, HB, HA, HD, HR⟩
  isplitl [HD]; · iexact HD
  isplitl [HA]; · iexact HA
  isplitl [HB]; · iexact HB
  isplitl [HC]; · iexact HC
  iexact HR

/-- The body leaves the two scores. -/
theorem body_run (a0 : Memref sig .tc .vmem S32x512 .f32) (h0 : a0.IsWhole) (a1 : Memref sig .tc .vmem S32x512 .f32) (h1 : a1.IsWhole)
    (a2 : Memref sig .tc .vmem S1x1 .f32) (h2 : a2.IsWhole) (a3 : Memref sig .tc .vmem S1x1 .f32) (h3 : a3.IsWhole) (q q' : PosShare TreeShare)
    (Y Z : S1x1.Idx → F .f32) :
    iprop(owns (Val := Elt F) (T d) a0 q A ∗ owns (Val := Elt F) (T d) a1 q' B ∗ owns (Val := Elt F) (T d) a2 fullShare Y
        ∗ owns (Val := Elt F) (T d) a3 fullShare Z ∗ R)
      ⊢ (wp frame (wpE (defs₀ (F := F)) Variants.none (T d) none) Set.univ (cc4__stats_body a0 h0 a1 h1 a2 h2 a3 h3)
          fun _ => iprop(owns (Val := Elt F) (T d) a0 q A ∗ owns (Val := Elt F) (T d) a1 q' B
            ∗ owns (Val := Elt F) (T d) a2 fullShare (score1 A B) ∗ owns (Val := Elt F) (T d) a3 fullShare (score2 A B) ∗ R)
            : sProp (MT nD τ sig (HIx 2) (Elt F) ℕ U ℕ)) := by
  rw [cc4__stats_body_eq_skeleton]; unfold cc4__stats_body_skel
  simp only [k4_part1_eq_skeleton]
  unfold k4_part1_skel
  simp only [Prog.lift, Prog.bind_op, Prog.bind_ret, Prog.pure_eq_ret, Prog.bind_assoc]
  refine load_own (F := F) (s := S32x512) (e := .f32) _ (T d) none Set.univ ?_
  refine BI.Entails.trans swap_two ?_
  refine load_own (F := F) (s := S32x512) (e := .f32) _ (T d) none Set.univ ?_
  refine BI.Entails.trans third_first ?_
  refine load_own (F := F) (s := S1x1) (e := .f32) _ (T d) none Set.univ ?_
  beta_reduce
  refine store_own (F := F) (s := S1x1) (e := .f32) _ (T d) none Set.univ fun Y' hY' _ => ?_
  obtain rfl : Y' = score1 A B := funext fun y => by have := hY' y; rw [score_whole] at this; rw [this, table_read A, table_read B]; rfl
  refine BI.Entails.trans fourth_first ?_
  refine load_own (F := F) (s := S1x1) (e := .f32) _ (T d) none Set.univ ?_
  beta_reduce
  refine store_own (F := F) (s := S1x1) (e := .f32) _ (T d) none Set.univ fun Z' hZ' _ => ?_
  obtain rfl : Z' = score2 A B := funext fun y => by have := hZ' y; rw [score_whole] at this; rw [this, table_read A, table_read B]; rfl
  rw [wp_ret]
  iintro ⟨H3, H0, H1, H2, HR⟩
  imodintro
  isplitl [H0]; · iexact H0
  isplitl [H1]; · iexact H1
  isplitl [H2]; · iexact H2
  isplitl [H3]; · iexact H3
  iexact HR

end Cert.Proof.StatsBody

end
-- ==== Proof.Calls.lean ====
/-
  The three TensorCore calls: what each body leaves at each grid point, and that it does.
-/
module

public import proofs.«01_k».proof.Proof.Setup
public import proofs.«01_k».proof.Proof.LabelBody
public import proofs.«01_k».proof.Proof.StatsBody
public import proofs.«01_k».proof.Proof.Gen.KernelIdeal.Points
public import Idealize.ShloMosaic.Lib.Pipeline.ValueKit.Geometry

@[expose] public section

set_option maxRecDepth 16384

noncomputable section

namespace Cert.Proof.Calls

open Cert.KernelIdeal Cert.KernelIdeal.Gen
open Idealize.ShloMosaic
open Idealize.ShloMosaic.SparseCore (S V T)
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

open Cert.Proof.OwnRules Cert.Proof.Setup

variable {F : FTy → Type} [FloatOps F]

local notation "𝕄" => MT nD τ sig (HIx 2) (Elt F) ℕ UU ℕ

variable (V : Vals F)

/-- The blocks the calls read at a grid point. -/
def logits0 (d : Dev nD) (t : Fin grid0.N) : S1x19x256x512.Idx → F .f32 := (win0_0.blk t).view.read (Elt F) (V d (Proc.devRef .tc main_arg0))
def masks0 (d : Dev nD) (t : Fin grid0.N) : S1x256x512.Idx → BitVec 32 := (win0_1.blk t).view.read (Elt F) (V d (Proc.devRef .tc main_arg1))
def logits1 (d : Dev nD) (t : Fin grid1.N) : S1x19x256x512.Idx → F .f32 := (win1_0.blk t).view.read (Elt F) (V d (Proc.devRef .tc main_arg0))
def masks1 (d : Dev nD) (t : Fin grid1.N) : S1x256x512.Idx → BitVec 32 := (win1_1.blk t).view.read (Elt F) (V d (Proc.devRef .tc main_arg1))
def table0 (d : Dev nD) (t : Fin grid4.N) : S32x512.Idx → F .f32 := (win4_0.blk t).view.read (Elt F) (V d (Proc.devRef .tc main_v2))
def table1 (d : Dev nD) (t : Fin grid4.N) : S32x512.Idx → F .f32 := (win4_1.blk t).view.read (Elt F) (V d (Proc.devRef .tc main_v3))

/-- What the three bodies leave in their staging buffers. -/
def aft : Afters F
  | 0 => fun d w t => match w with
    | 0 => logits0 V d t
    | 1 => masks0 V d t
    | 2 => LabelBody.blockLabels (F := F) (logits0 V d t) (masks0 V d t)
  | 1 => fun d w t => match w with
    | 0 => logits1 V d t
    | 1 => masks1 V d t
    | 2 => LabelBody.blockLabels (F := F) (logits1 V d t) (masks1 V d t)
  | 2 => fun d w t => match w with
    | 0 => table0 V d t
    | 1 => table1 V d t
    | 2 => StatsBody.score1 (table0 V d t) (table1 V d t)
    | 3 => StatsBody.score2 (table0 V d t) (table1 V d t)

variable (O : Dev nD → CellTallies nD τ sig (HIx 2)) (b : ℕ)

abbrev dats (p : Fin 3) (d : Dev nD) := pdats V (aft V) O b p d

theorem body0 (d : Dev nD) : Pipeline.BodyObligation (dats V O b 0 d) (defs₀ (F := F)) 𝒱₀ (none : HIx 2) Set.univ := fun t => by
  rw [bigSep_W0, bigSep_W0]
  rw [show (dats V O b 0 d).Φ t.castSucc = (dats V O b 0 d).Φ t.succ from rfl,
    show (dats V O b 0 d).owesAt none t.castSucc = (dats V O b 0 d).owesAt none t.succ from rfl]
  iintro ⟨HΦ, Howes, ⟨%d0, H0⟩, ⟨%d1, H1⟩, ⟨%d2, H2⟩⟩
  rw [show (dats V O b 0 d).before 0 t d0 = logits0 V d t from (Pipeline.Dat.before_fetched _ 0 t (fetch0_0 t) d0).trans rfl,
    show (dats V O b 0 d).before 1 t d1 = masks0 V d t from (Pipeline.Dat.before_fetched _ 1 t (fetch0_1 t) d1).trans rfl]
  have hb := LabelBody.body_run (F := F) (U := UU) (X := logits0 V d t) (M := masks0 V d t)
    (R := iprop((dats V O b 0 d).Φ t.succ ∗ (dats V O b 0 d).owesAt none t.succ)) d (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) fullShare fullShare ((dats V O b 0 d).before 2 t d2)
  iapply (as_shown (hb.trans (wp_mono _ _ _ fun _ => ?post))) $$ [H0 H1 H2 HΦ Howes]
  case post =>
    change _ ⊢ iprop((dats V O b 0 d).Φ t.succ ∗ (dats V O b 0 d).owesAt none t.succ
      ∗ owns (Val := Elt F) (T d) (win0_0.stage (cfg0.slots t 0)) fullShare (logits0 V d t)
      ∗ owns (Val := Elt F) (T d) (win0_1.stage (cfg0.slots t 1)) fullShare (masks0 V d t)
      ∗ owns (Val := Elt F) (T d) (win0_2.stage (cfg0.slots t 2)) fullShare (LabelBody.blockLabels (F := F) (logits0 V d t) (masks0 V d t)))
    iintro ⟨H0, H1, H2, HΦ, Howes⟩
    isplitl [HΦ]; · iexact HΦ
    isplitl [Howes]; · iexact Howes
    isplitl [H0]; · iexact H0
    isplitl [H1]; · iexact H1
    iexact H2
  isplitl [H0]; · iexact H0
  isplitl [H1]; · iexact H1
  isplitl [H2]; · iexact H2
  isplitl [HΦ]; · iexact HΦ
  iexact Howes

theorem body1 (d : Dev nD) : Pipeline.BodyObligation (dats V O b 1 d) (defs₀ (F := F)) 𝒱₀ (none : HIx 2) Set.univ := fun t => by
  rw [bigSep_W1, bigSep_W1]
  rw [show (dats V O b 1 d).Φ t.castSucc = (dats V O b 1 d).Φ t.succ from rfl,
    show (dats V O b 1 d).owesAt none t.castSucc = (dats V O b 1 d).owesAt none t.succ from rfl]
  iintro ⟨HΦ, Howes, ⟨%d0, H0⟩, ⟨%d1, H1⟩, ⟨%d2, H2⟩⟩
  rw [show (dats V O b 1 d).before 0 t d0 = logits1 V d t from (Pipeline.Dat.before_fetched _ 0 t (fetch1_0 t) d0).trans rfl,
    show (dats V O b 1 d).before 1 t d1 = masks1 V d t from (Pipeline.Dat.before_fetched _ 1 t (fetch1_1 t) d1).trans rfl]
  have hb := LabelBody.body_run (F := F) (U := UU) (X := logits1 V d t) (M := masks1 V d t)
    (R := iprop((dats V O b 1 d).Φ t.succ ∗ (dats V O b 1 d).owesAt none t.succ)) d (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) fullShare fullShare ((dats V O b 1 d).before 2 t d2)
  iapply (as_shown (hb.trans (wp_mono _ _ _ fun _ => ?post))) $$ [H0 H1 H2 HΦ Howes]
  case post =>
    change _ ⊢ iprop((dats V O b 1 d).Φ t.succ ∗ (dats V O b 1 d).owesAt none t.succ
      ∗ owns (Val := Elt F) (T d) (win1_0.stage (cfg1.slots t 0)) fullShare (logits1 V d t)
      ∗ owns (Val := Elt F) (T d) (win1_1.stage (cfg1.slots t 1)) fullShare (masks1 V d t)
      ∗ owns (Val := Elt F) (T d) (win1_2.stage (cfg1.slots t 2)) fullShare (LabelBody.blockLabels (F := F) (logits1 V d t) (masks1 V d t)))
    iintro ⟨H0, H1, H2, HΦ, Howes⟩
    isplitl [HΦ]; · iexact HΦ
    isplitl [Howes]; · iexact Howes
    isplitl [H0]; · iexact H0
    isplitl [H1]; · iexact H1
    iexact H2
  isplitl [H0]; · iexact H0
  isplitl [H1]; · iexact H1
  isplitl [H2]; · iexact H2
  isplitl [HΦ]; · iexact HΦ
  iexact Howes

theorem body2 (d : Dev nD) : Pipeline.BodyObligation (dats V O b 2 d) (defs₀ (F := F)) 𝒱₀ (none : HIx 2) Set.univ := fun t => by
  obtain rfl := fin_N4 t
  rw [bigSep_W4, bigSep_W4]
  rw [show (dats V O b 2 d).Φ t4_0.castSucc = (dats V O b 2 d).Φ t4_0.succ from rfl,
    show (dats V O b 2 d).owesAt none t4_0.castSucc = (dats V O b 2 d).owesAt none t4_0.succ from rfl]
  iintro ⟨HΦ, Howes, ⟨%d0, H0⟩, ⟨%d1, H1⟩, ⟨%d2, H2⟩, ⟨%d3, H3⟩⟩
  rw [show (dats V O b 2 d).before 0 t4_0 d0 = table0 V d t4_0 from (Pipeline.Dat.before_fetched _ 0 t4_0 (fetch4_0 _) d0).trans rfl,
    show (dats V O b 2 d).before 1 t4_0 d1 = table1 V d t4_0 from (Pipeline.Dat.before_fetched _ 1 t4_0 (fetch4_1 _) d1).trans rfl]
  have hb := StatsBody.body_run (F := F) (U := UU) (A := table0 V d t4_0) (B := table1 V d t4_0)
    (R := iprop((dats V O b 2 d).Φ t4_0.succ ∗ (dats V O b 2 d).owesAt none t4_0.succ)) d
    (win4_0.stage (cfg4.slots t4_0 0)) (hstage4_0 0) (win4_1.stage (cfg4.slots t4_0 1)) (hstage4_1 0)
    (win4_2.stage (cfg4.slots t4_0 2)) (hstage4_2 0) (win4_3.stage (cfg4.slots t4_0 3)) (hstage4_3 0) fullShare fullShare
    ((dats V O b 2 d).before 2 t4_0 d2) ((dats V O b 2 d).before 3 t4_0 d3)
  iapply (as_shown (hb.trans (wp_mono _ _ _ fun _ => ?post))) $$ [H0 H1 H2 H3 HΦ Howes]
  case post =>
    change _ ⊢ iprop((dats V O b 2 d).Φ t4_0.succ ∗ (dats V O b 2 d).owesAt none t4_0.succ
      ∗ owns (Val := Elt F) (T d) (win4_0.stage (cfg4.slots t4_0 0)) fullShare (table0 V d t4_0)
      ∗ owns (Val := Elt F) (T d) (win4_1.stage (cfg4.slots t4_0 1)) fullShare (table1 V d t4_0)
      ∗ owns (Val := Elt F) (T d) (win4_2.stage (cfg4.slots t4_0 2)) fullShare (StatsBody.score1 (table0 V d t4_0) (table1 V d t4_0))
      ∗ owns (Val := Elt F) (T d) (win4_3.stage (cfg4.slots t4_0 3)) fullShare (StatsBody.score2 (table0 V d t4_0) (table1 V d t4_0)))
    iintro ⟨H0, H1, H2, H3, HΦ, Howes⟩
    isplitl [HΦ]; · iexact HΦ
    isplitl [Howes]; · iexact Howes
    isplitl [H0]; · iexact H0
    isplitl [H1]; · iexact H1
    isplitl [H2]; · iexact H2
    iexact H3
  isplitl [H0]; · iexact H0
  isplitl [H1]; · iexact H1
  isplitl [H2]; · iexact H2
  isplitl [H3]; · iexact H3
  isplitl [HΦ]; · iexact HΦ
  iexact Howes

/-- The pixel `(r, c)` of image `i`, in the logits at class `n` and in the masks. -/
def atLogit (i n r c : ℕ) (hi : i < 8) (hr : r < 512) (hc : c < 512) : S8x19x512x512.Idx
  | 0 => ⟨i, hi⟩ | 1 => ⟨n % 19, Nat.mod_lt _ (by decide)⟩ | 2 => ⟨r, hr⟩ | 3 => ⟨c, hc⟩
def atMask (i r c : ℕ) (hi : i < 8) (hr : r < 512) (hc : c < 512) : S8x512x512.Idx
  | 0 => ⟨i, hi⟩ | 1 => ⟨r, hr⟩ | 2 => ⟨c, hc⟩

/-- The label of pixel `(r, c)` of image `i`. -/
def pixelLabel (X : S8x19x512x512.Idx → F .f32) (M : S8x512x512.Idx → BitVec 32) (i r c : ℕ) (hi : i < 8) (hr : r < 512) (hc : c < 512) : BitVec 32 :=
  LabelBody.label (F := F) (fun n => X (atLogit i n r c hi hr hc)) (M (atMask i r c hi hr hc)) (BitVec.ofNat 32 c)

/-- The labels of four images, from image `4 k` on. -/
def labels4 (k : Fin 2) (X : S8x19x512x512.Idx → F .f32) (M : S8x512x512.Idx → BitVec 32) : S4x512x512.Idx → BitVec 32 :=
  fun y => pixelLabel X M ((y 0).val + 4 * k.val) (y 1).val (y 2).val (by have h : (y 0).val < 4 := (y 0).isLt; omega) (y 1).isLt (y 2).isLt

theorem index0_0 : ∀ t : Fin grid0.N, win0_0.index t = ![(grid0.coords t 0).val, 0, (grid0.coords t 1).val, 0] := by decide +kernel
theorem index0_1 : ∀ t : Fin grid0.N, win0_1.index t = ![(grid0.coords t 0).val, (grid0.coords t 1).val, 0] := by decide +kernel
theorem index0_2 : ∀ t : Fin grid0.N, win0_2.index t = ![(grid0.coords t 0).val, (grid0.coords t 1).val, 0] := by decide +kernel
theorem index1_0 : ∀ t : Fin grid1.N, win1_0.index t = ![(grid1.coords t 0).val + 4, 0, (grid1.coords t 1).val, 0] := by decide +kernel
theorem index1_1 : ∀ t : Fin grid1.N, win1_1.index t = ![(grid1.coords t 0).val + 4, (grid1.coords t 1).val, 0] := by decide +kernel
theorem index1_2 : ∀ t : Fin grid1.N, win1_2.index t = ![(grid1.coords t 0).val, (grid1.coords t 1).val, 0] := by decide +kernel

theorem covers0 : win0_2.Covers := by decide +kernel
theorem covers1 : win1_2.Covers := by decide +kernel

/-- The first call leaves the labels of the first four images. -/
theorem arr0 (d : Dev nD) : (dats V O b 0 d).arrAt 2 cfg0.N
    = labels4 (F := F) 0 (V d (Proc.devRef .tc main_arg0)) (V d (Proc.devRef .tc main_arg1)) := by
  refine (dats V O b 0 d).arrAt_eq_of_covers 2 _ covers0 (fun t hf y => ?_) (Memref.isWhole_whole _)
  change LabelBody.blockLabels (F := F) (logits0 V d t) (masks0 V d t) y = labels4 0 _ _ ((win0_2.blk t).view.emb y)
  unfold LabelBody.blockLabels labels4 pixelLabel logits0 masks0
  blk_simp [index0_0, index0_1, index0_2]
  refine congr (congrArg₂ LabelBody.label (funext fun n => congrArg _ (funext fun a => Fin.ext ?_)) (congrArg _ (funext fun a => Fin.ext ?_))) rfl
  · match a with
    | 0 => show _ = ((win0_2.blk t).view.emb y 0).val + 4 * 0; blk_simp [index0_0, index0_2]; rfl
    | 1 => show _ = n % 19; blk_simp [index0_0, index0_2]; rfl
    | 2 => show _ = ((win0_2.blk t).view.emb y 1).val; blk_simp [index0_0, index0_2]; rfl
    | 3 => show _ = ((win0_2.blk t).view.emb y 2).val; blk_simp [index0_0, index0_2]; rfl
  · match a with
    | 0 => show _ = ((win0_2.blk t).view.emb y 0).val + 4 * 0; blk_simp [index0_1, index0_2]; rfl
    | 1 => show _ = ((win0_2.blk t).view.emb y 1).val; blk_simp [index0_1, index0_2]
    | 2 => show _ = ((win0_2.blk t).view.emb y 2).val; blk_simp [index0_1, index0_2]

/-- The second call leaves the labels of the last four images. -/
theorem arr1 (d : Dev nD) : (dats V O b 1 d).arrAt 2 cfg1.N
    = labels4 (F := F) 1 (V d (Proc.devRef .tc main_arg0)) (V d (Proc.devRef .tc main_arg1)) := by
  refine (dats V O b 1 d).arrAt_eq_of_covers 2 _ covers1 (fun t hf y => ?_) (Memref.isWhole_whole _)
  change LabelBody.blockLabels (F := F) (logits1 V d t) (masks1 V d t) y = labels4 1 _ _ ((win1_2.blk t).view.emb y)
  unfold LabelBody.blockLabels labels4 pixelLabel logits1 masks1
  blk_simp [index1_0, index1_1, index1_2]
  refine congr (congrArg₂ LabelBody.label (funext fun n => congrArg _ (funext fun a => Fin.ext ?_)) (congrArg _ (funext fun a => Fin.ext ?_))) rfl
  · match a with
    | 0 => show _ = ((win1_2.blk t).view.emb y 0).val + 4 * 1; blk_simp [index1_0, index1_2]
    | 1 => show _ = n % 19; blk_simp [index1_0, index1_2]; rfl
    | 2 => show _ = ((win1_2.blk t).view.emb y 1).val; blk_simp [index1_0, index1_2]; rfl
    | 3 => show _ = ((win1_2.blk t).view.emb y 2).val; blk_simp [index1_0, index1_2]; rfl
  · match a with
    | 0 => show _ = ((win1_2.blk t).view.emb y 0).val + 4 * 1; blk_simp [index1_1, index1_2]
    | 1 => show _ = ((win1_2.blk t).view.emb y 1).val; blk_simp [index1_1, index1_2]
    | 2 => show _ = ((win1_2.blk t).view.emb y 2).val; blk_simp [index1_1, index1_2]

theorem table0_eq (d : Dev nD) : table0 V d t4_0 = V d (Proc.devRef .tc main_v2) := by
  funext y
  unfold table0
  blk_simp
  refine congrArg _ (funext fun a => Fin.ext ?_)
  match a with
  | 0 => blk_simp; exact Nat.zero_add _
  | 1 => blk_simp; exact Nat.zero_add _

theorem table1_eq (d : Dev nD) : table1 V d t4_0 = V d (Proc.devRef .tc main_v3) := by
  funext y
  unfold table1
  blk_simp
  refine congrArg _ (funext fun a => Fin.ext ?_)
  match a with
  | 0 => blk_simp; exact Nat.zero_add _
  | 1 => blk_simp; exact Nat.zero_add _

theorem covers2 : win4_2.Covers := by decide +kernel
theorem covers3 : win4_3.Covers := by decide +kernel

theorem one_score (y z : S1x1.Idx) : y = z :=
  funext fun a => match a with
    | 0 => Subsingleton.elim (α := Fin 1) _ _
    | 1 => Subsingleton.elim (α := Fin 1) _ _

/-- The last call leaves the two scores of the two tables. -/
theorem arr2 (d : Dev nD) : (dats V O b 2 d).arrAt 2 cfg4.N
    = StatsBody.score1 (F := F) (V d (Proc.devRef .tc main_v2)) (V d (Proc.devRef .tc main_v3)) := by
  refine (dats V O b 2 d).arrAt_eq_of_covers 2 _ covers2 (fun t hf y => ?_) (Memref.isWhole_whole _)
  obtain rfl := fin_N4 t
  change StatsBody.score1 (table0 V d t4_0) (table1 V d t4_0) y = StatsBody.score1 _ _ ((win4_2.blk t4_0).view.emb y)
  rw [table0_eq, table1_eq]
  exact congrArg _ (one_score _ _)

theorem arr3 (d : Dev nD) : (dats V O b 2 d).arrAt 3 cfg4.N
    = StatsBody.score2 (F := F) (V d (Proc.devRef .tc main_v2)) (V d (Proc.devRef .tc main_v3)) := by
  refine (dats V O b 2 d).arrAt_eq_of_covers 3 _ covers3 (fun t hf y => ?_) (Memref.isWhole_whole _)
  obtain rfl := fin_N4 t
  change StatsBody.score2 (table0 V d t4_0) (table1 V d t4_0) y = StatsBody.score2 _ _ ((win4_3.blk t4_0).view.emb y)
  rw [table0_eq, table1_eq]
  exact congrArg _ (one_score _ _)

end Cert.Proof.Calls

end
-- ==== Proof.Steps.lean ====
/-
  @main's steps as triples over the TensorCore's buffers held at a valuation: a TensorCore call, and a SparseCore call, each
  changing its result's contents and nothing else.
-/
module

public import proofs.«01_k».proof.Proof.Tasks
public import proofs.«01_k».proof.Proof.Calls

@[expose] public section

noncomputable section

namespace Cert.Proof.Steps

open Cert.KernelIdeal Cert.KernelIdeal.Gen
open Idealize.ShloMosaic
open Idealize.ShloMosaic.SparseCore (S V T)
open Idealize.ShloMosaic.SparseCore.Cfg (HIx)
open Idealize.ShloMosaic.Rounds
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Cert.Proof.Tile Cert.Proof.Hist Cert.Proof.Pieces Cert.Proof.Setup Cert.Proof.Task Cert.Proof.Tasks Cert.Proof.Calls

variable {F : FTy → Type} [FloatOps F]

local notation "𝕄" => MT nD τ sig (HIx 2) (Elt F) ℕ UU ℕ

/-! ## Two buffers out of the held ones -/

/-- The TensorCore's unscoped buffers. -/
abbrev uc : Finset (DevRef τ sig) := Pipeline.ucRefs τ sig

/-- Two buffers of a held set, and the rest. -/
theorem held_two (d : Dev nD) {A : Finset (DevRef τ sig)} {a b : DevRef τ sig} (ha : a ∈ A) (hb : b ∈ A) (hab : b ≠ a) (W : Valuation τ sig (Elt F)) :
    (held (T d) A W : sProp 𝕄) = iprop((((d, a) : Loc nD τ sig) ↦{fullShare} W a) ∗ (((d, b) : Loc nD τ sig) ↦{fullShare} W b) ∗ held (T d) ((A.erase a).erase b) W) := by
  unfold held
  rw [SparseCore.bigSep_erase' ha, SparseCore.bigSep_erase' (Finset.mem_erase.mpr ⟨hab, hb⟩)]

/-- The same after the second is updated. -/
theorem held_two_update (d : Dev nD) {A : Finset (DevRef τ sig)} {a b : DevRef τ sig} (ha : a ∈ A) (hb : b ∈ A) (hab : b ≠ a) (W : Valuation τ sig (Elt F))
    (Z : b.ty.Contents (Elt F)) :
    (held (T d) A (Function.update W b Z) : sProp 𝕄)
      = iprop((((d, a) : Loc nD τ sig) ↦{fullShare} W a) ∗ (((d, b) : Loc nD τ sig) ↦{fullShare} Z) ∗ held (T d) ((A.erase a).erase b) W) := by
  rw [held_two d ha hb hab, Function.update_self, Function.update_of_ne hab.symm]
  unfold held
  rw [BI.bigSep_congr fun x hx => by rw [Function.update_of_ne (Finset.mem_erase.mp hx).1]]

/-! ## What a SparseCore call is handed and hands back -/

section Deal

variable (a2 : Memref sig .scVector .hbm S4x512x512 .i32) (a3 : Memref sig .scVector .hbm S32x512 .f32) (X : S4x512x512.Idx → BitVec 32) (d : Dev nD)
variable (h2 : ∀ t Y, (owns (Val := Elt F) (tileOf d t) (slab (gridAt t) a2) fullShare Y : sProp (MT nD τ sig (HIx 2) (Elt F) ℕ UU ℕ)) = owns (Val := Elt F) (tileOf d (0, 0)) (slab (gridAt t) a2) fullShare Y)
variable (h3 : ∀ t Y, (owns (Val := Elt F) (tileOf d t) (outRow (gridAt t) a3) fullShare Y : sProp (MT nD τ sig (HIx 2) (Elt F) ℕ UU ℕ)) = owns (Val := Elt F) (tileOf d (0, 0)) (outRow (gridAt t) a3) fullShare Y)
include h2 h3

theorem deal (G : S32x512.Idx → F .f32) :
    iprop(owns (Val := Elt F) (tileOf d (0, 0)) a2 fullShare X ∗ owns (Val := Elt F) (tileOf d (0, 0)) a3 fullShare G)
      ⊢ (bigSep Finset.univ fun c : Fin 2 => bigSep Finset.univ fun i : Fin 16 => given (F := F) a2 a3 X d (c, i) : sProp 𝕄) := by
  rw [← bigSep_univ_prod (fun t : TileIx => given (F := F) a2 a3 X d t)]
  unfold given
  simp only [h2, h3]
  rw [bigSep_sep']
  rw [slabs_owned (F := F) (tileOf d (0, 0)) a2 X]
  exact BI.sep_mono (BI.Entails.refl _) (rows_dealt (F := F) (tileOf d (0, 0)) a3 G)

theorem collect :
    (bigSep Finset.univ fun c : Fin 2 => bigSep Finset.univ fun i : Fin 16 => brought (F := F) a2 a3 X d (c, i) : sProp 𝕄)
      ⊢ iprop(owns (Val := Elt F) (tileOf d (0, 0)) a2 fullShare X ∗ owns (Val := Elt F) (tileOf d (0, 0)) a3 fullShare (counts (F := F) X)) := by
  rw [← bigSep_univ_prod (fun t : TileIx => brought (F := F) a2 a3 X d t)]
  unfold brought
  simp only [h2, h3]
  rw [bigSep_sep']
  rw [slabs_owned (F := F) (tileOf d (0, 0)) a2 X]
  exact BI.sep_mono (BI.Entails.refl _) (rows_owned (F := F) (tileOf d (0, 0)) a3 X)

end Deal

variable (X : Fin 2 → Dev nD → S4x512x512.Idx → BitVec 32)

theorem lab0_same (d : Dev nD) (t : TileIx) (Y) : (owns (Val := Elt F) (tileOf d t) (slab (gridAt t) lab0) fullShare Y : sProp 𝕄) = owns (Val := Elt F) (tileOf d (0, 0)) (slab (gridAt t) lab0) fullShare Y := rfl
theorem lab1_same (d : Dev nD) (t : TileIx) (Y) : (owns (Val := Elt F) (tileOf d t) (slab (gridAt t) lab1) fullShare Y : sProp 𝕄) = owns (Val := Elt F) (tileOf d (0, 0)) (slab (gridAt t) lab1) fullShare Y := rfl
theorem tab0_same (d : Dev nD) (t : TileIx) (Y) : (owns (Val := Elt F) (tileOf d t) (outRow (gridAt t) tab0) fullShare Y : sProp 𝕄) = owns (Val := Elt F) (tileOf d (0, 0)) (outRow (gridAt t) tab0) fullShare Y := rfl
theorem tab1_same (d : Dev nD) (t : TileIx) (Y) : (owns (Val := Elt F) (tileOf d t) (outRow (gridAt t) tab1) fullShare Y : sProp 𝕄) = owns (Val := Elt F) (tileOf d (0, 0)) (outRow (gridAt t) tab1) fullShare Y := rfl

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

theorem owns_lab0 (d : Dev nD) (Y : S4x512x512.Idx → BitVec 32) : (owns (Val := Elt F) (tileOf d (0, 0)) lab0 fullShare Y : sProp 𝕄) = ((d, v0') : Loc nD τ sig) ↦{fullShare} Y := owns_whole _ _ _ _
theorem owns_lab1 (d : Dev nD) (Y : S4x512x512.Idx → BitVec 32) : (owns (Val := Elt F) (tileOf d (0, 0)) lab1 fullShare Y : sProp 𝕄) = ((d, v1') : Loc nD τ sig) ↦{fullShare} Y := owns_whole _ _ _ _
theorem owns_tab0 (d : Dev nD) (Y : S32x512.Idx → F .f32) : (owns (Val := Elt F) (tileOf d (0, 0)) tab0 fullShare Y : sProp 𝕄) = ((d, v2') : Loc nD τ sig) ↦{fullShare} Y := owns_whole _ _ _ _
theorem owns_tab1 (d : Dev nD) (Y : S32x512.Idx → F .f32) : (owns (Val := Elt F) (tileOf d (0, 0)) tab1 fullShare Y : sProp 𝕄) = ((d, v3') : Loc nD τ sig) ↦{fullShare} Y := owns_whole _ _ _ _

theorem start0 (d : Dev nD) (G : S32x512.Idx → F .f32) :
    iprop((((d, v0') : Loc nD τ sig) ↦{fullShare} X 0 d) ∗ (((d, v2') : Loc nD τ sig) ↦{fullShare} G)) ⊢ (bigSep Finset.univ fun c : Fin ((K (F := F)).nCore 0) => (P (F := F) X).st 0 d c : sProp 𝕄) := by
  rw [← owns_lab0, ← owns_tab0]
  exact deal (F := F) lab0 tab0 (X 0 d) d (lab0_same d) (tab0_same d) G

theorem start1 (d : Dev nD) (G : S32x512.Idx → F .f32) :
    iprop((((d, v1') : Loc nD τ sig) ↦{fullShare} X 1 d) ∗ (((d, v3') : Loc nD τ sig) ↦{fullShare} G)) ⊢ (bigSep Finset.univ fun c : Fin ((K (F := F)).nCore 1) => (P (F := F) X).st 1 d c : sProp 𝕄) := by
  rw [← owns_lab1, ← owns_tab1]
  exact deal (F := F) lab1 tab1 (X 1 d) d (lab1_same d) (tab1_same d) G

theorem done0 (d : Dev nD) :
    (bigSep Finset.univ fun c : Fin ((K (F := F)).nCore 0) => (P (F := F) X).dn 0 d c : sProp 𝕄)
      ⊢ iprop((((d, v0') : Loc nD τ sig) ↦{fullShare} X 0 d) ∗ (((d, v2') : Loc nD τ sig) ↦{fullShare} counts (F := F) (X 0 d))) := by
  rw [← owns_lab0, ← owns_tab0]
  exact collect (F := F) lab0 tab0 (X 0 d) d (lab0_same d) (tab0_same d)

theorem done1 (d : Dev nD) :
    (bigSep Finset.univ fun c : Fin ((K (F := F)).nCore 1) => (P (F := F) X).dn 1 d c : sProp 𝕄)
      ⊢ iprop((((d, v1') : Loc nD τ sig) ↦{fullShare} X 1 d) ∗ (((d, v3') : Loc nD τ sig) ↦{fullShare} counts (F := F) (X 1 d))) := by
  rw [← owns_lab1, ← owns_tab1]
  exact collect (F := F) lab1 tab1 (X 1 d) d (lab1_same d) (tab1_same d)

end Cert.Proof.Steps
-- ==== Proof.Run.lean ====
/-
  The whole program's run: the buffers after each of @main's steps, the steps put together, and what the run leaves in the
  arguments and the results.
-/
module

public import proofs.«01_k».proof.Proof.Steps

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.ShloMosaic.Rounds
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Cert.Proof.Pieces Cert.Proof.Setup Cert.Proof.Task Cert.Proof.Tasks Cert.Proof.Calls Cert.Proof.Steps

variable {F : FTy → Type} [FloatOps F]

local notation "𝕄" => MT nD τ sig (HIx 2) (Elt F) ℕ UU ℕ

/-! ## A TensorCore call -/

theorem owed_none (d : Dev nD) (n : ℕ) (g : GSem nD τ sig) : (K (F := F)).Otc d n g (none : HIx 2) = 0 := by
  by_contra h
  have := SparseCore.Cfg.lev_of_Otc_pos (K := K (F := F)) (Nat.pos_of_ne_zero h)
  rw [SparseCore.Cfg.lev_none] at this
  omega

/-- The staging rounds of call `p` on device `d`. -/
def rounds (p : Fin 3) (d : Dev nD) : sProp 𝕄 :=
  iprop(Pipeline.cellsGhost (Pipeline.pin (pcfgs (F := F)) adm) EP p d ∗ Pipeline.toksInit (Pipeline.pin (pcfgs (F := F)) adm) EP p d)

section Call

variable (V : Vals F) (n : ℕ)

abbrev owed : Dev nD → CellTallies nD τ sig (HIx 2) := fun d => (K (F := F)).Otc d n
abbrev bound : ℕ := 8 * n

/-- The buffers after TensorCore call `p` entered at `V`, before SparseCore call `n`. -/
def after (p : Fin 3) : Vals F := afterCall V (aft V) (owed (F := F) n) (bound n) p

theorem sorted_in {O R B H L G G' : sProp 𝕄} : iprop((O ∗ R) ∗ B ∗ H ∗ L ∗ (G ∗ G')) ⊢ iprop((B ∗ (H ∗ O) ∗ L ∗ G ∗ G') ∗ R) := by
  iintro ⟨⟨HO, HR⟩, HB, HH, HL, HG, HG'⟩
  iframe

theorem sorted_out {O R B H : sProp 𝕄} : iprop((B ∗ (H ∗ O)) ∗ R) ⊢ iprop((O ∗ R) ∗ B ∗ H) := by
  iintro ⟨⟨HB, HH, HO⟩, HR⟩
  iframe

theorem with_wand {A B C : sProp 𝕄} (h : B ⊢ C) : A ⊢ iprop((B -∗ C) ∗ A) := by
  iintro H
  isplitr
  · iintro HB; iapply h; iexact HB
  · iexact H

theorem at_end (d : Dev nD) {A : sProp 𝕄} : A ⊢ wp frame (wpE (D (F := F)) 𝒱 (T d) none) Set.univ (.ret PUnit.unit) fun _ => A := by
  rw [wp_ret]; iintro H; imodintro; iexact H

set_option backward.isDefEq.respectTransparency.types false in
/-- Call `p` takes the buffers from `V` to the buffers after it. -/
theorem call_run [∀ e, Nonempty (Elt F e)] {p : Fin 3} (hp : Pipeline.LaunchFacts (nD := nD) (τ := τ) cfgs p)
    (hbody : ∀ d, Pipeline.BodyObligation (dats V (owed (F := F) n) (bound n) p d) (defs₀ (F := F)) Setup.𝒱₀ (none : HIx 2) Set.univ) (d : Dev nD) :
    iprop((K (F := F)).tcSt EH d n ∗ boundary (T d) ∗ held (T d) uc (V d) ∗ levAts (K (F := F)).L (K (F := F)).lev ∗ rounds (F := F) p d)
      ⊢ (wp frame (wpE ((K (F := F)).defs (D (F := F))) 𝒱 (T d) none) Set.univ (Prog.lift (.customCall (SparseCore.inner (Pipeline.entry p)) ()))
          fun _ => iprop((K (F := F)).tcSt EH d n ∗ boundary (T d) ∗ held (T d) uc (after V n p d)) : sProp 𝕄) := by
  have hrun := Pipeline.RegionSeg.wp (α := PUnit) (pcfgs (F := F)) adm (dats V (owed (F := F) n) (bound n)) (none : HIx 2) cellOf_inj EP (defs₀ (F := F)) Setup.𝒱₀
    (K (F := F)).L (K (F := F)).lev (region V (aft V) (owed (F := F) n) (bound n) p hp (fun d g => owed_none d n g) hbody) d none
    (fun _ h => absurd h (by simp)) (fun _ => .ret PUnit.unit)
    (fun _ => iprop(boundary (T d) ∗ (unscopedBufs d (fun r => after V n p d (Proc.devRef .tc r)) ∗ tcOwes (F := F) (owed (F := F) n) (bound n) d)))
  have hone : iprop(boundary (T d) ∗ (unscopedBufs d (fun r => V d (Proc.devRef .tc r)) ∗ tcOwes (F := F) (owed (F := F) n) (bound n) d)
        ∗ levAts (K (F := F)).L (K (F := F)).lev ∗ Pipeline.cellsGhost (Pipeline.pin (pcfgs (F := F)) adm) EP p d ∗ Pipeline.toksInit (Pipeline.pin (pcfgs (F := F)) adm) EP p d)
      ⊢ (wp frame (wpE (D (F := F)) 𝒱 (T d) none) Set.univ (Prog.lift (.customCall (Pipeline.entry p) ()))
          fun _ => iprop(boundary (T d) ∗ (unscopedBufs d (fun r => after V n p d (Proc.devRef .tc r)) ∗ tcOwes (F := F) (owed (F := F) n) (bound n) d)) : sProp 𝕄) := by
    exact BI.Entails.trans (with_wand (at_end d)) hrun
  refine BI.Entails.trans ?_ ((K (F := F)).wp_liftProg (D (F := F)) 𝒱 (T d) Set.univ none (Prog.lift (.customCall (Pipeline.entry p) ())) _)
  rw [← Pipeline.unscopedBufs_held, ← Pipeline.unscopedBufs_held]
  unfold SparseCore.Cfg.tcSt rounds
  exact sorted_in.trans ((BI.sep_mono hone (BI.Entails.refl _)).trans
    (BI.Entails.trans (wp_frame_r frame _ Set.univ) (wp_mono _ _ _ fun _ => sorted_out)))

end Call

/-! ## A SparseCore call -/

section Count

variable (X : Fin 2 → Dev nD → S4x512x512.Idx → BitVec 32) (κ : GSem nD τ sig → ℕ) (d : Dev nD)

theorem back {A B C G H H' D₁ : sProp 𝕄} (h : iprop(D₁) ⊢ iprop(A ∗ B)) (h' : iprop(A ∗ B ∗ H) ⊢ H') : iprop(G ∗ H) ⊢ iprop((C ∗ D₁) -∗ (C ∗ G ∗ H')) := by
  iintro ⟨HG, HH⟩ ⟨HC, HD⟩
  ihave HAB := h $$ HD
  icases HAB with ⟨HA, HB⟩
  iframe
  iapply h'
  iframe

theorem handed {L S B a b A Ds : sProp 𝕄} {Φ : sProp 𝕄} (h : iprop(a ∗ b) ⊢ Ds) (h' : iprop(B ∗ A) ⊢ Φ) :
    iprop(L ∗ S ∗ B ∗ (a ∗ b ∗ A)) ⊢ iprop(L ∗ S ∗ Ds ∗ Φ) := by
  iintro ⟨HL, HS, HB, Ha, Hb, HA⟩
  iframe
  isplitl [Ha Hb]
  · iapply h; iframe
  · iapply h'; iframe

/-- The first call writes the counts of its labels. -/
theorem count_run0 (W : Valuation τ sig (Elt F)) (hW : W v0' = X 0 d) :
    iprop((K (F := F)).ctx EH (P (F := F) X) κ ∗ (K (F := F)).tcSt EH d 0 ∗ boundary (T d) ∗ held (T d) uc W)
      ⊢ (wp frame (wpE ((K (F := F)).defs (D (F := F))) 𝒱 (T d) none) Set.univ ((K (F := F)).run d 0)
          fun _ => iprop((K (F := F)).tcSt EH d 1 ∗ boundary (T d) ∗ held (T d) uc (Function.update W v2' (counts (F := F) (X 0 d)))) : sProp 𝕄) := by
  rw [held_two_update (F := F) d (a := v0') (b := v2') (by decide) (by decide) (by decide) W, held_two (F := F) d (a := v0') (b := v2') (by decide) (by decide) (by decide) W, hW]
  have run := (K (F := F)).wp_run (D (F := F)) 𝒱 (EH := EH) (P := P (F := F) X) κ d 0
    (Φ := fun _ => iprop((K (F := F)).tcSt EH d 1 ∗ boundary (T d) ∗ ((d, v0') ↦{fullShare} X 0 d) ∗ ((d, v2') ↦{fullShare} counts (F := F) (X 0 d)) ∗ held (T d) ((uc.erase v0').erase v2') W))
  exact BI.Entails.trans (handed (start0 (F := F) X d (W v2')) (back (C := (K (F := F)).tcSt EH d 1) (done0 (F := F) X d) (BI.Entails.refl _))) run

/-- The second likewise. -/
theorem count_run1 (W : Valuation τ sig (Elt F)) (hW : W v1' = X 1 d) :
    iprop((K (F := F)).ctx EH (P (F := F) X) κ ∗ (K (F := F)).tcSt EH d 1 ∗ boundary (T d) ∗ held (T d) uc W)
      ⊢ (wp frame (wpE ((K (F := F)).defs (D (F := F))) 𝒱 (T d) none) Set.univ ((K (F := F)).run d 1)
          fun _ => iprop((K (F := F)).tcSt EH d 2 ∗ boundary (T d) ∗ held (T d) uc (Function.update W v3' (counts (F := F) (X 1 d)))) : sProp 𝕄) := by
  rw [held_two_update (F := F) d (a := v1') (b := v3') (by decide) (by decide) (by decide) W, held_two (F := F) d (a := v1') (b := v3') (by decide) (by decide) (by decide) W, hW]
  have run := (K (F := F)).wp_run (D (F := F)) 𝒱 (EH := EH) (P := P (F := F) X) κ d 1
    (Φ := fun _ => iprop((K (F := F)).tcSt EH d 2 ∗ boundary (T d) ∗ ((d, v1') ↦{fullShare} X 1 d) ∗ ((d, v3') ↦{fullShare} counts (F := F) (X 1 d)) ∗ held (T d) ((uc.erase v1').erase v3') W))
  exact BI.Entails.trans (handed (start1 (F := F) X d (W v3')) (back (C := (K (F := F)).tcSt EH d 2) (done1 (F := F) X d) (BI.Entails.refl _))) run

end Count

end Cert.Proof.Run
-- ==== Proof.Main.lean ====
/-
  The buffers after each of @main's steps, and what every run of the whole program leaves in them.
-/
module

public import proofs.«01_k».proof.Proof.Run

@[expose] public section

noncomputable section

namespace Cert.Proof.Main

open Cert.KernelIdeal Cert.KernelIdeal.Gen
open Idealize.ShloMosaic
open Idealize.ShloMosaic.SparseCore (S V T)
open Idealize.ShloMosaic.SparseCore.Cfg (HIx)
open Idealize.ShloMosaic.Rounds
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Cert.Proof.Pieces Cert.Proof.Setup Cert.Proof.Task Cert.Proof.Tasks Cert.Proof.Calls Cert.Proof.Steps Cert.Proof.Run

variable {F : FTy → Type} [FloatOps F]

local notation "𝕄" => MT nD τ sig (HIx 2) (Elt F) ℕ UU ℕ

abbrev x' : DevRef τ sig := Proc.devRef .tc (main_arg0 : Ref sig .tc)
abbrev mk' : DevRef τ sig := Proc.devRef .tc (main_arg1 : Ref sig .tc)
abbrev s1' : DevRef τ sig := Proc.devRef .tc (main_v4_0 : Ref sig .tc)
abbrev s2' : DevRef τ sig := Proc.devRef .tc (main_v4_1 : Ref sig .tc)
abbrev r1' : DevRef τ sig := Proc.devRef .tc (main_v5 : Ref sig .tc)
abbrev r2' : DevRef τ sig := Proc.devRef .tc (main_v6 : Ref sig .tc)

abbrev cut1 : HloOp τ sig (Elt F) := StableHlo.reshape main_v4_0 main_v5 (rfl : (.f32 : EltTy) = .f32) shapeCasts_S1x1_S_
abbrev cut2 : HloOp τ sig (Elt F) := StableHlo.reshape main_v4_1 main_v6 (rfl : (.f32 : EltTy) = .f32) shapeCasts_S1x1_S_

variable (m : (ℓ : Loc nD τ sig) → Buf (Elt F) ℓ) (ρ : Dev nD → PrngReg)

/-! ## The buffers step by step -/

def V0 : Vals F := fun d b => m (d, b)
def V1 : Vals F := after (V0 m) 0 0
def V2 : Vals F := after (V1 m) 0 1
/-- The labels of the four images that SparseCore call `k` takes. -/
def X (k : Fin 2) (d : Dev nD) : S4x512x512.Idx → BitVec 32 := labels4 k (m (d, x')) (m (d, mk'))
def V3 : Vals F := fun d => Function.update (V2 m d) v2' (counts (F := F) (X m 0 d))
def V4 : Vals F := fun d => Function.update (V3 m d) v3' (counts (F := F) (X m 1 d))
def V5 : Vals F := after (V4 m) 2 2
def V6 : Vals F := fun d => (cut1 (F := F)).result (V5 m d)
def V7 : Vals F := fun d => (cut2 (F := F)).result (V6 m d)

section After

variable (V : Vals F) (n : ℕ) (d : Dev nD)

set_option backward.isDefEq.respectTransparency.types false in
theorem after_window {p : Fin 3} (hp : Pipeline.LaunchFacts (nD := nD) (τ := τ) cfgs p) (w : Fin (cfgs p).W) :
    after V n p d (Proc.devRef .tc (Pipeline.arrRef (cfgs p).spec w)) = (dats V (owed (F := F) n) (bound n) p d).arrAt w (cfgs p).N :=
  Pipeline.afterRegion_arr (pdats V (aft V) (owed (F := F) n) (bound n) p d) (V d) hp.win.arr_inj w

set_option backward.isDefEq.respectTransparency.types false in
theorem after_input {p : Fin 3} (hp : Pipeline.LaunchFacts (nD := nD) (τ := τ) cfgs p) (w : Fin (cfgs p).W) (hin : ((cfgs p).win w).isOut = false) :
    after V n p d (Proc.devRef .tc (Pipeline.arrRef (cfgs p).spec w)) = V d (Proc.devRef .tc (Pipeline.arrRef (cfgs p).spec w)) :=
  (after_window V n d hp w).trans ((dats V (owed (F := F) n) (bound n) p d).arrAt_in w hin _)

set_option backward.isDefEq.respectTransparency.types false in
theorem after_other {p : Fin 3} {b : Ref sig .tc} (hb : ∀ w, b ≠ Pipeline.arrRef (cfgs p).spec w) :
    after V n p d (Proc.devRef .tc b) = V d (Proc.devRef .tc b) :=
  Pipeline.afterRegion_of_not_arr (pdats V (aft V) (owed (F := F) n) (bound n) p d) (V d) hb

end After

section Values

set_option backward.isDefEq.respectTransparency.types false

theorem V1_x (d : Dev nD) : V1 m d x' = m (d, x') := after_input (V0 m) 0 d launch0 0 rfl
theorem V1_mk (d : Dev nD) : V1 m d mk' = m (d, mk') := after_input (V0 m) 0 d launch0 1 rfl
theorem V1_v0 (d : Dev nD) : V1 m d v0' = X m 0 d := (after_window (V0 m) 0 d launch0 2).trans (arr0 (V0 m) _ _ d)
theorem V2_x (d : Dev nD) : V2 m d x' = m (d, x') := (after_input (V1 m) 0 d launch1 0 rfl).trans (V1_x m d)
theorem V2_mk (d : Dev nD) : V2 m d mk' = m (d, mk') := (after_input (V1 m) 0 d launch1 1 rfl).trans (V1_mk m d)
theorem V2_v0 (d : Dev nD) : V2 m d v0' = X m 0 d := (after_other (V1 m) 0 d (p := 1) (by decide)).trans (V1_v0 m d)
theorem V2_v1 (d : Dev nD) : V2 m d v1' = X m 1 d := by
  refine (after_window (V1 m) 0 d launch1 2).trans ((arr1 (V1 m) _ _ d).trans ?_)
  show labels4 1 (V1 m d x') (V1 m d mk') = _
  rw [V1_x, V1_mk]; rfl
theorem V3_v1 (d : Dev nD) : V3 m d v1' = X m 1 d := (Function.update_of_ne (by decide) _ _).trans (V2_v1 m d)
theorem V4_v2 (d : Dev nD) : V4 m d v2' = counts (F := F) (X m 0 d) := (Function.update_of_ne (by decide) _ _).trans (Function.update_self _ _ _)
theorem V4_v3 (d : Dev nD) : V4 m d v3' = counts (F := F) (X m 1 d) := Function.update_self _ _ _
theorem V4_x (d : Dev nD) : V4 m d x' = m (d, x') :=
  (Function.update_of_ne (by decide) _ _).trans ((Function.update_of_ne (by decide) _ _).trans (V2_x m d))
theorem V4_mk (d : Dev nD) : V4 m d mk' = m (d, mk') :=
  (Function.update_of_ne (by decide) _ _).trans ((Function.update_of_ne (by decide) _ _).trans (V2_mk m d))
theorem V5_x (d : Dev nD) : V5 m d x' = m (d, x') := (after_other (V4 m) 2 d (p := 2) (by decide)).trans (V4_x m d)
theorem V5_mk (d : Dev nD) : V5 m d mk' = m (d, mk') := (after_other (V4 m) 2 d (p := 2) (by decide)).trans (V4_mk m d)
theorem V5_s1 (d : Dev nD) : V5 m d s1' = StatsBody.score1 (counts (F := F) (X m 0 d)) (counts (F := F) (X m 1 d)) := by
  refine (after_window (V4 m) 2 d launch4 2).trans ((arr2 (V4 m) _ _ d).trans ?_)
  show StatsBody.score1 (V4 m d v2') (V4 m d v3') = _
  rw [V4_v2, V4_v3]
theorem V5_s2 (d : Dev nD) : V5 m d s2' = StatsBody.score2 (counts (F := F) (X m 0 d)) (counts (F := F) (X m 1 d)) := by
  refine (after_window (V4 m) 2 d launch4 3).trans ((arr3 (V4 m) _ _ d).trans ?_)
  show StatsBody.score2 (V4 m d v2') (V4 m d v3') = _
  rw [V4_v2, V4_v3]

/-- The two results: the scores of the two tables, as scalars. -/
def res1 (d : Dev nD) : S_.Idx → F .f32 := shapeCast S_ (StatsBody.score1 (counts (F := F) (X m 0 d)) (counts (F := F) (X m 1 d))) shapeCasts_S1x1_S_
def res2 (d : Dev nD) : S_.Idx → F .f32 := shapeCast S_ (StatsBody.score2 (counts (F := F) (X m 0 d)) (counts (F := F) (X m 1 d))) shapeCasts_S1x1_S_

theorem V7_x (d : Dev nD) : V7 m d x' = m (d, x') :=
  ((cut2 (F := F)).result_of_not_mem (V6 m d) (b := x') (show x' ∉ ({r2'} : Finset (DevRef τ sig)) by decide)).trans (((cut1 (F := F)).result_of_not_mem (V5 m d) (b := x') (show x' ∉ ({r1'} : Finset (DevRef τ sig)) by decide)).trans (V5_x m d))
theorem V7_mk (d : Dev nD) : V7 m d mk' = m (d, mk') :=
  ((cut2 (F := F)).result_of_not_mem (V6 m d) (b := mk') (show mk' ∉ ({r2'} : Finset (DevRef τ sig)) by decide)).trans (((cut1 (F := F)).result_of_not_mem (V5 m d) (b := mk') (show mk' ∉ ({r1'} : Finset (DevRef τ sig)) by decide)).trans (V5_mk m d))
theorem V7_r1 (d : Dev nD) : V7 m d r1' = res1 m d := by
  refine ((cut2 (F := F)).result_of_not_mem (V6 m d) (b := r1') (show r1' ∉ ({r2'} : Finset (DevRef τ sig)) by decide)).trans ?_
  refine (StableHlo.reshape_result' (x := main_v4_0) (y := main_v5) (rfl : (EltTy.f32 : EltTy) = EltTy.f32) shapeCasts_S1x1_S_ _ _ (V5 m d)).trans ?_
  rw [V5_s1]; rfl
theorem V7_r2 (d : Dev nD) : V7 m d r2' = res2 m d := by
  refine (StableHlo.reshape_result' (x := main_v4_1) (y := main_v6) (rfl : (EltTy.f32 : EltTy) = EltTy.f32) shapeCasts_S1x1_S_ _ _ (V6 m d)).trans ?_
  rw [show V6 m d s2' = V5 m d s2' from (cut1 (F := F)).result_of_not_mem (V5 m d) (b := s2') (show s2' ∉ ({r1'} : Finset (DevRef τ sig)) by decide), V5_s2]; rfl

end Values

/-! ## @main -/

abbrev PX := P (F := F) (X m)

/-- One step of @main, with what is not its own set aside. -/
theorem step {A A' R : sProp 𝕄} {Φ : PUnit → sProp 𝕄} {E : Prog (TpuEff nD τ sig (Elt F) (SparseCore.Sig (Pipeline.Sig Λ₀ (Fin 3) fun p => (pcfgs (F := F) p).Adm) 2) .tc) PUnit} {d : Dev nD}
    (h : A ⊢ (wp frame (wpE ((K (F := F)).defs (D (F := F))) 𝒱 (T d) none) Set.univ E fun _ => A' : sProp 𝕄)) (h' : iprop(A' ∗ R) ⊢ Φ ⟨⟩) :
    iprop(A ∗ R) ⊢ (wp frame (wpE ((K (F := F)).defs (D (F := F))) 𝒱 (T d) none) Set.univ E Φ : sProp 𝕄) :=
  (BI.sep_mono h (BI.Entails.refl _)).trans (BI.Entails.trans (wp_frame_r frame _ Set.univ) (wp_mono _ _ _ fun _ => h'))

/-- What a TensorCore call uses of the launch's state, and the rest. -/
theorem for_call {C S B H R R' L : sProp 𝕄} [BI.Persistent C] (hL : C ⊢ L) : iprop(C ∗ (S ∗ B ∗ H) ∗ R ∗ R') ⊢ iprop((S ∗ B ∗ H ∗ L ∗ R) ∗ (C ∗ R')) := by
  iintro ⟨#HC, ⟨HS, HB, HH⟩, HR, HR'⟩
  ihave HL := hL $$ HC
  iframe
  isplitr <;> iassumption

theorem for_count {C S B H R : sProp 𝕄} [BI.Persistent C] : iprop(C ∗ (S ∗ B ∗ H) ∗ R) ⊢ iprop((C ∗ S ∗ B ∗ H) ∗ (C ∗ R)) := by
  iintro ⟨#HC, ⟨HS, HB, HH⟩, HR⟩
  iframe
  isplitr <;> iexact HC

theorem after_step {A C R : sProp 𝕄} : iprop(A ∗ (C ∗ R)) ⊢ iprop(C ∗ A ∗ R) := by
  iintro ⟨HA, HC, HR⟩
  iframe

/-- What @main leaves: every buffer at its last contents. -/
abbrev FIN (d : Dev nD) : sProp 𝕄 := held (T d) uc (V7 m d)

/-- The rounds of the three TensorCore calls. -/
def G (d : Dev nD) : sProp 𝕄 := iprop(rounds (F := F) 0 d ∗ rounds (F := F) 1 d ∗ rounds (F := F) 2 d)

theorem cut1_sub : (cut1 (F := F)).bufs ⊆ uc := show ({s1', r1'} : Finset (DevRef τ sig)) ⊆ uc by decide
theorem cut2_sub : (cut2 (F := F)).bufs ⊆ uc := show ({s2', r2'} : Finset (DevRef τ sig)) ⊆ uc by decide

theorem cut_run (op : HloOp τ sig (Elt F)) (h : op.bufs ⊆ uc) (hf : op.fresh = ∅) (d : Dev nD) (W : Valuation τ sig (Elt F)) :
    iprop(boundary (T d) ∗ held (T d) uc W)
      ⊢ (wp frame (wpE ((K (F := F)).defs (D (F := F))) 𝒱 (T d) none) Set.univ (hlo rfl op fun _ => .ret PUnit.unit)
          fun _ => iprop(boundary (T d) ∗ held (T d) uc (op.result W)) : sProp 𝕄) := by
  iintro H
  iapply (wp_hlo_within 𝒱 (T d) none Set.univ (op := op) (S := uc) h (V := W) (hf := hf)) $$ [H]
  · iexact H
  iintro H
  rw [wp_ret]; imodintro; iexact H

theorem arrange {C S B H Z Pg R₀ R₁ R₂ : sProp 𝕄} : iprop(C ∗ S ∗ (B ∗ H ∗ Z ∗ Pg) ∗ R₀ ∗ R₁ ∗ R₂) ⊢ iprop(C ∗ (S ∗ B ∗ H) ∗ R₀ ∗ (R₁ ∗ R₂ ∗ Z)) := by
  iintro ⟨HC, HS, ⟨HB, HH, HZ, -⟩, H0, H1, H2⟩
  iframe

theorem to_cut {C S B H Z : sProp 𝕄} : iprop((S ∗ B ∗ H) ∗ (C ∗ Z)) ⊢ iprop((B ∗ H) ∗ (S ∗ Z)) := by
  iintro ⟨⟨HS, HB, HH⟩, -, HZ⟩
  iframe

theorem at_last {S B H Z : sProp 𝕄} : iprop((B ∗ H) ∗ (S ∗ Z)) ⊢ iprop(|={Set.univ}=> (S ∗ H ∗ B ∗ Z)) := by
  iintro ⟨⟨HB, HH⟩, HS, HZ⟩
  imodintro
  iframe

/-- @main on a device: the three TensorCore calls, the two SparseCore calls and the two reshapes. -/
theorem hmain [∀ e, Nonempty (Elt F e)] (κ : GSem nD τ sig → ℕ) (d : Dev nD) :
    iprop((K (F := F)).ctx EH (PX m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd G
  have hV : (unscopedBufs d (fun r => V0 m d (Proc.devRef .tc r)) : sProp 𝕄) = held (T d) uc (V0 m d) := Pipeline.unscopedBufs_held d (V0 m d)
  have hV' : (fun b : Ref sig .tc => m ((SparseCore.T d).loc b)) = fun r => V0 m d (Proc.devRef .tc r) := funext fun b => rfl
  rw [hV', hV]
  simp only [main, wp_bind, wp_pure]
  have c0 := call_run (V0 m) 0 launch0 (body0 (V0 m) _ _) d
  have c1 := call_run (V1 m) 0 launch1 (body1 (V1 m) _ _) d
  have s0 := count_run0 (X m) κ d (V2 m d) (V2_v0 m d)
  have s1 := count_run1 (X m) κ d (V3 m d) (V3_v1 m d)
  have c2 := call_run (V4 m) 2 launch4 (body2 (V4 m) _ _) d
  have r1 := cut_run (F := F) cut1 cut1_sub rfl d (V5 m d)
  have r2 := cut_run (F := F) cut2 cut2_sub rfl d (V6 m d)
  have hL : (K (F := F)).ctx EH (PX m) κ ⊢ levAts (K (F := F)).L (K (F := F)).lev := SparseCore.Cfg.ctx_levAts κ
  exact arrange.trans ((for_call hL).trans (step c0 (after_step.trans ((for_call hL).trans (step c1 (after_step.trans
    (for_count.trans (step s0 (after_step.trans (for_count.trans (step s1 (after_step.trans
      ((for_call hL).trans (step c2 (to_cut.trans (step r1 (step r2 at_last)))))))))))))))))

/-! ## The launch's state -/

/-- The launch semaphores' cells, and the TensorCore calls' staging cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem G_eq (d : Dev nD) : G (F := F) d = bigSep Finset.univ fun p : Fin 3 => rounds (F := F) p d := by
  rw [three]; rfl

theorem staged : iprop((bigSep Finset.univ fun d : Dev nD => bigSep Finset.univ fun p : Fin 3 => Pipeline.cellsGhost (Pipeline.pin (pcfgs (F := F)) adm) EP p d)
      ∗ bigSep Finset.univ fun d : Dev nD => bigSep Finset.univ fun p : Fin 3 => Pipeline.toksInit (Pipeline.pin (pcfgs (F := F)) adm) EP p d)
    = (bigSep Finset.univ fun d : Dev nD => G (F := F) d : sProp 𝕄) := by
  simp only [G_eq, rounds, bigSep_sep']

theorem nothing_kept : (iprop(emp) : sProp 𝕄) = bigSep Finset.univ fun thr : Thread nD τ => bigSep Finset.univ fun q : Fin 2 => (PX m).x q thr := by
  have h : ∀ thr : Thread nD τ, (bigSep Finset.univ fun q : Fin 2 => (PX m).x q thr) = iprop(emp) := fun thr => bigSep_emp_const _
  rw [bigSep_congr fun thr _ => h thr]
  exact (bigSep_emp_const _).symm

theorem staged_part (a : UP) : (BI.own (((Emb.inl : Emb UP (UP × Counters)).trans embR) a) : sProp 𝕄) ⊢ BI.own (EP a) := by
  unfold EP; exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PX m).x q thr) := by
  rw [← nothing_kept m, ← staged]
  unfold u₀
  iintro Hu
  ihave H := (ownU_pair _ _) $$ Hu
  icases H with ⟨HH, HR⟩
  ihave H := (own_pair_emb embR _ _) $$ HR
  icases H with ⟨HP, -⟩
  ihave HP := (staged_part _) $$ HP
  imod (Pipeline.fund_ghost (Pipeline.pin (pcfgs (F := F)) adm) EP cellOf_inj) $$ HP with ⟨Hg, Ht⟩
  imodintro
  iframe

/-! ## What the run leaves -/

theorem held_agrees (d : Dev nD) (W : Valuation τ sig (Elt F)) {b : DevRef τ sig} (hb : b ∈ uc) (s' : Phys nD τ sig (Elt F)) :
    iprop(held (T d) uc W ∗ SI s') ⊢ (⌜s'.mem.mem (d, b) = W b⌝ : sProp 𝕄) := by
  unfold held
  rw [SparseCore.bigSep_erase' hb]
  iintro ⟨⟨Hx, -⟩, HSI⟩
  ihave H := (SI_pointsTo_agree (st := s') (ℓ := ((d, b) : Loc nD τ sig)) (I := Finset.univ) (q := fullShare) (f := W b)) $$ [HSI Hx]
  · isplitl [HSI] <;> iassumption
  icases H with %hx
  ipureintro; exact funext fun i => hx i (Finset.mem_univ i)

/-- Every unscoped buffer of the device at its last contents. -/
def fq (d : Dev nD) (s' : Phys nD τ sig (Elt F)) : Prop := ∀ b : DevRef τ sig, b ∈ uc → s'.mem.mem (d, b) = V7 m d b

theorem hfin (d : Dev nD) (s' : Phys nD τ sig (Elt F)) : iprop(FIN m d ∗ SI s') ⊢ (⌜fq m d s'⌝ : sProp 𝕄) :=
  fun a ha b hb => held_agrees d (V7 m d) hb s' a ha

/-- The arguments as they were, the two results, and no semaphore counting. -/
def QC : PUnit × MemSt nD τ sig (Elt F) → Prop := fun r =>
  (∀ d : Dev nD, r.2.mem (d, x') = m (d, x') ∧ r.2.mem (d, mk') = m (d, mk') ∧ r.2.mem (d, r1') = res1 m d ∧ r.2.mem (d, r2') = res2 m d) ∧ r.2.sem = fun _ => 0

theorem leaves (d : Dev nD) {s' : Phys nD τ sig (Elt F)} (h : fq m d s') :
    s'.mem.mem (d, x') = m (d, x') ∧ s'.mem.mem (d, mk') = m (d, mk') ∧ s'.mem.mem (d, r1') = res1 m d ∧ s'.mem.mem (d, r2') = res2 m d :=
  ⟨(h x' (by decide)).trans (V7_x m d), (h mk' (by decide)).trans (V7_mk m d), (h r1' (by decide)).trans (V7_r1 m d), (h r2' (by decide)).trans (V7_r2 m d)⟩

/-- Every run of the program, its labels being in range, ends with the two scores of the counts. -/
theorem run_main [∀ e, Nonempty (Elt F e)] (hX : ∀ k d, LabelsOK (X m k d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PX m) (A := ∅) facts v₀
    (fun q hq => match q with | 0 => nomatch hq | 1 => nomatch hq)
    (fun q _ => match q with | 0 => tileObl0 (X m) (hX 0) | 1 => tileObl1 (X m) (hX 1))
    (fun q _ => SparseCore.Cfg.VecSplit.of_plain (vecSplit (X m) q))
    m ρ main (G (F := F)) (FIN m) (u₀ (F := F)) (sep_elim_left.trans (hu₀ m)) (hmain m ρ) (fq m) (hfin m) (QC m)
    (fun _ h hz => ⟨fun d => leaves m d (h d), hz⟩)

end Cert.Proof.Main
-- ==== Proof.Labels.lean ====
module

public import proofs.«01_k».proof.Proof.Calls
public import proofs.«01_k».proof.Proof.Task
public import proofs.«01_k».proof.Proof.Gen.Pre_classes
public import Idealize.ShloMosaic.Lib.ReduceAll
public import Idealize.ShloMosaic.Lib.WordCmp

/-! What the precondition says of one pixel, and that every label then names a bin. -/

@[expose] public section

noncomputable section

namespace Cert.Proof.Labels

open Cert.KernelIdeal Cert.KernelIdeal.Gen
open Idealize.ShloMosaic Idealize.ShloMosaic.WordCmp
open Cert.Proof.Calls Cert.Proof.LabelBody Cert.Proof.Task

variable {F : FTy → Type} [FloatOps F]

/-- Every class of the mask is one of the nineteen. -/
abbrev InRange (mk : S8x512x512.Idx → BitVec 32) : Prop := ∀ i, (mk i).toNat < 19

instance : Subsingleton S_.Idx := ⟨fun a b => funext fun i => i.elim0⟩

variable {x : S8x19x512x512.Idx → F .f32} {mk : S8x512x512.Idx → BitVec 32}

theorem both {a b : BitVec 1} (h : IntOp.andi a b = 1#1) : a = 1#1 ∧ b = 1#1 := by
  revert a b; decide

/-- A word that is at least zero and less than nineteen, signed, is less than nineteen. -/
theorem word_lt {w : BitVec 32} (h2 : IntOp.cmpi .sge w 0#32 = 1#1) (h3 : IntOp.cmpi .slt w 19#32 = 1#1) : w.toNat < 19 := by
  rw [cmpi_sge_zero] at h2
  have h4 : w.toNat < 2 ^ 31 := by
    by_contra hn
    rw [decide_eq_false hn] at h2
    exact absurd h2 (by decide)
  rw [cmpi_slt_of_lt (by simpa using h4) (by decide)] at h3
  by_contra hn
  rw [decide_eq_false (by simpa using hn)] at h3
  exact absurd h3 (by decide)

/-- What the frames' precondition says of the mask. -/
theorem classes_in_range (h : Cert.Pre_classes.fn (F := F) x mk = fun _ => 1#1) : InRange mk := fun i => by
  obtain ⟨hge, hlt⟩ := both (congrFun h (fun a => a.elim0 : S_.Idx))
  have h2 := Host.reduce_andi_all _ _ _ _ _ hge i
  have h3 := Host.reduce_andi_all _ _ _ _ _ hlt i
  exact word_lt h2 h3

/-- The scan's class is at most the last one looked at. -/
theorem scan_le (x : ℕ → F .f32) : ∀ n, n < 19 → (LabelBody.scan x n).toNat ≤ n
  | 0, _ => by simp [LabelBody.scan]
  | n + 1, hn => by
    have ih := scan_le x n (by omega)
    unfold LabelBody.scan Scalar.select
    split
    · rw [BitVec.toNat_ofNat]; exact Nat.mod_le _ _
    · omega

/-- A label as a number. -/
theorem label_toNat (x : ℕ → F .f32) {m c : BitVec 32} (hm : m.toNat < 19) :
    (label x m c).toNat = m.toNat * 19 + (LabelBody.scan x 18).toNat + c.toNat % 16 * 513 := by
  have hs := scan_le x 18 (by decide)
  have ha : (c &&& 15#32).toNat = c.toNat % 16 := by
    rw [BitVec.toNat_and]; exact Nat.and_two_pow_sub_one_eq_mod _ 4
  have hc : c.toNat % 16 < 16 := Nat.mod_lt _ (by decide)
  unfold label IntOp.addi IntOp.muli IntOp.andi
  rw [BitVec.toNat_add, BitVec.toNat_add, BitVec.toNat_mul, BitVec.toNat_mul, ha]
  show (((m.toNat * 19 % 2 ^ 32) + (LabelBody.scan x 18).toNat) % 2 ^ 32 + (c.toNat % 16 * 513 % 2 ^ 32)) % 2 ^ 32 = _
  omega

/-- Every label of a mask in range names a bin. -/
theorem labels_ok (h : InRange mk) (k : Fin 2) : LabelsOK (labels4 k x mk) := fun y => by
  unfold labels4 pixelLabel
  rw [label_toNat _ (h _)]
  have hs := scan_le (fun n => x (atLogit ((y 0).val + 4 * k.val) n (y 1).val (y 2).val
    (by have h : (y 0).val < 4 := (y 0).isLt; omega) (y 1).isLt (y 2).isLt)) 18 (by decide)
  have hm := h (atMask ((y 0).val + 4 * k.val) (y 1).val (y 2).val
    (by have h : (y 0).val < 4 := (y 0).isLt; omega) (y 1).isLt (y 2).isLt)
  have hc : (BitVec.ofNat 32 (y 2).val).toNat % 16 < 16 := Nat.mod_lt _ (by decide)
  omega

end Cert.Proof.Labels
-- ==== Proof.RefOps.lean ====
module

public import proofs.«01_k».proof.Proof.Gen.ReferenceIdeal
public import Idealize.ShloMosaic.Lib.StableHlo.Run
public import Idealize.ShloMosaic.Lib.Pipeline.Frame

/-! The reference's run: its operations in seven windows, what each window leaves, and the run's results as
functions of the two arguments. -/

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ### What the windows compute -/

/-- The exponentials of the logits less their greatest of the pixel. -/
def expo (x : S8x19x512x512.Idx → F .f32) : S8x19x512x512.Idx → F .f32 :=
  Host.exp (subf x (broadcastInDim S8x19x512x512 ![0, 1, 2, 3] bcast_S8x1x512x512_S8x19x512x512_0_1_2_3
    (broadcastInDim S8x1x512x512 ![0, 2, 3] bcast_S8x512x512_S8x1x512x512_0_2_3
      (maximumf (broadcastInDim S8x512x512 ![] bcast_S_S8x512x512 (constant S_ .f32 0xFF800000#32))
        (Host.reduce FloatOps.maximumf x (constant S_ .f32 0xFF800000#32) reducesTo_S8x19x512x512_S8x512x512_d1 h_S_)))))

/-- The softmax over the classes. -/
def prob (x : S8x19x512x512.Idx → F .f32) : S8x19x512x512.Idx → F .f32 :=
  Host.divf (expo x) (broadcastInDim S8x19x512x512 ![0, 1, 2, 3] bcast_S8x1x512x512_S8x19x512x512_0_1_2_3
    (broadcastInDim S8x1x512x512 ![0, 2, 3] bcast_S8x512x512_S8x1x512x512_0_2_3
      (Host.reduceAdd (expo x) (constant S_ .f32 0x00000000#32) reducesTo_S8x19x512x512_S8x512x512_d1 h_S_)))

/-- The first class of the greatest probability. -/
def pick (p : S8x19x512x512.Idx → F .f32) : S8x512x512.Idx → BitVec 32 := fun j =>
  (Host.argReduce reducer_argmax_f32_i32 p (iotaInDim S8x19x512x512 32 1) (constant S_ .f32 0xFF800000#32)
    (constantI S_ 32 0#32) reducesTo_S8x19x512x512_S8x512x512_d1 h_S_ j).2

/-- Whether a pixel's class is one of the nineteen. -/
def valid (mk : S8x512x512.Idx → BitVec 32) : S8x512x512.Idx → BitVec 1 :=
  andi (cmpi .sge mk (broadcastInDim S8x512x512 ![] bcast_S_S8x512x512 (constantI S_ 32 0#32)))
    (cmpi .slt mk (broadcastInDim S8x512x512 ![] bcast_S_S8x512x512 (constantI S_ 32 19#32)))

/-- The cell of the table a pixel counts in. -/
def cell (mk c : S8x512x512.Idx → BitVec 32) : S8x512x512.Idx → BitVec 32 :=
  select (valid mk)
    (addi (muli (broadcastInDim S8x512x512 ![] bcast_S_S8x512x512 (constantI S_ 32 19#32)) mk) c)
    (broadcastInDim S8x512x512 ![] bcast_S_S8x512x512 (id (constantI S_ 32 0#32)))

/-- The cells as a line, none below zero. -/
def line (l : S8x512x512.Idx → BitVec 32) : S2097152.Idx → BitVec 32 :=
  maxsi (broadcastInDim S2097152 ![] bcast_S_S2097152 (id (constantI S_ 32 0#32)))
    (shapeCast S2097152 l shapeCasts_S8x512x512_S2097152)

/-- The cells that the scatter adds at. -/
def spots (l : S2097152.Idx → BitVec 32) : S2097152x1.Idx → BitVec 32 :=
  broadcastInDim S2097152x1 ![0] bcast_S2097152_S2097152x1_0
    (select (cmpi .slt l (broadcastInDim S2097152 ![] bcast_S_S2097152 (constantI S_ 32 0#32)))
      (addi l (broadcastInDim S2097152 ![] bcast_S_S2097152 (constantI S_ 32 361#32))) l)

/-- The table: line = the pixel's class, column = the class picked. -/
def table (v : S8x512x512.Idx → BitVec 1) (l : S8x512x512.Idx → BitVec 32) : S19x19.Idx → F .f32 :=
  shapeCast S19x19 (Host.scatterAdd scatter_S361_S2097152x1_S2097152_n_0_0_1
    (broadcastInDim S361 ![] bcast_S_S361 (constant S_ .f32 0x00000000#32)) (spots (line l))
    (shapeCast S2097152 (uitofp .f32 v) shapeCasts_S8x512x512_S2097152)) shapeCasts_S361_S19x19

/-- The table's diagonal. -/
def inter (t : S19x19.Idx → F .f32) : S19.Idx → F .f32 :=
  Host.reduceAdd (select (cmpi .eq (addi (iotaInDim S19x19 32 0)
      (broadcastInDim S19x19 ![] bcast_S_S19x19 (constantI S_ 32 0#32))) (iotaInDim S19x19 32 1)) t
    (broadcastInDim S19x19 ![] bcast_S_S19x19 (id (constant S_ .f32 0x00000000#32))))
    (constant S_ .f32 0x00000000#32) reducesTo_S19x19_S19_d1 h_S_

/-- Line sums plus column sums. -/
def sides (t : S19x19.Idx → F .f32) : S19.Idx → F .f32 :=
  addf (Host.reduceAdd t (constant S_ .f32 0x00000000#32) reducesTo_S19x19_S19_d1 h_S_)
    (Host.reduceAdd t (constant S_ .f32 0x00000000#32) reducesTo_S19x19_S19_d0 h_S_)

/-- Nineteen copies of zero. -/
def zeros : S19.Idx → F .f32 := broadcastInDim S19 ![] bcast_S_S19 (constant S_ .f32 0x00000000#32)

/-- Intersection over union, zero of an empty union. -/
def iou (i u : S19.Idx → F .f32) : S19.Idx → F .f32 :=
  select (cmpf .ogt u zeros)
    (Host.divf i (select (cmpf .ogt u zeros) u
      (broadcastInDim S19 ![] bcast_S_S19 (id (constant S_ .f32 0x3F800000#32)))))
    (broadcastInDim S19 ![] bcast_S_S19 (id (constant S_ .f32 0x00000000#32)))

/-- The mean over the classes. -/
def mean (q : S19.Idx → F .f32) : S_.Idx → F .f32 :=
  Host.divf (Host.reduceAdd q (constant S_ .f32 0x00000000#32) reducesTo_S19_S_d0 h_S_) (constant S_ .f32 0x41980000#32)

/-- The table's sum, one of an empty table. -/
def total (t : S19x19.Idx → F .f32) : S_.Idx → F .f32 :=
  select (cmpf .ogt (Host.reduceAdd t (constant S_ .f32 0x00000000#32) reducesTo_S19x19_S_d0_1 h_S_)
      (constant S_ .f32 0x00000000#32))
    (Host.reduceAdd t (constant S_ .f32 0x00000000#32) reducesTo_S19x19_S_d0_1 h_S_)
    (id (constant S_ .f32 0x3F800000#32))

/-- The classes' frequencies. -/
def freq (t : S19x19.Idx → F .f32) : S19.Idx → F .f32 :=
  Host.divf (Host.reduceAdd t (constant S_ .f32 0x00000000#32) reducesTo_S19x19_S19_d1 h_S_)
    (broadcastInDim S19 ![] bcast_S_S19 (total t))

/-- The mean weighted by the frequencies. -/
def weighted (t : S19x19.Idx → F .f32) (q : S19.Idx → F .f32) : S_.Idx → F .f32 :=
  Host.reduceAdd (select (cmpf .ogt (freq t) zeros) (mulf (freq t) q)
      (broadcastInDim S19 ![] bcast_S_S19 (id (constant S_ .f32 0x00000000#32))))
    (constant S_ .f32 0x00000000#32) reducesTo_S19_S_d0 h_S_

/-! ### The operations -/

/-- The softmax over the classes. -/
abbrev softmaxOps : List (HloOp τ sig (Elt F)) :=
  [ nullary main_cst (constant S_ .f32 0xFF800000#32),
    binary main_arg0 main_cst main_v0 ((fun x v => Host.reduce FloatOps.maximumf x v reducesTo_S8x19x512x512_S8x512x512_d1 h_S_) : (⟨S8x19x512x512, .f32⟩ : BufTy).Contents (Elt F) → (⟨S_, .f32⟩ : BufTy).Contents (Elt F) → (⟨S8x512x512, .f32⟩ : BufTy).Contents (Elt F)),
    nullary main_cst_0 (constant S_ .f32 0xFF800000#32),
    unary main_cst_0 main_v1 (broadcastInDim S8x512x512 ![] bcast_S_S8x512x512 : (⟨S_, .f32⟩ : BufTy).Contents (Elt F) → (⟨S8x512x512, .f32⟩ : BufTy).Contents (Elt F)),
    binary main_v1 main_v0 main_v2 (maximumf : (⟨S8x512x512, .f32⟩ : BufTy).Contents (Elt F) → (⟨S8x512x512, .f32⟩ : BufTy).Contents (Elt F) → (⟨S8x512x512, .f32⟩ : BufTy).Contents (Elt F)),
    unary main_v2 main_v3 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v3 main_v4 (broadcastInDim S8x19x512x512 ![0, 1, 2, 3] bcast_S8x1x512x512_S8x19x512x512_0_1_2_3 : (⟨S8x1x512x512, .f32⟩ : BufTy).Contents (Elt F) → (⟨S8x19x512x512, .f32⟩ : BufTy).Contents (Elt F)),
    binary main_arg0 main_v4 main_v5 (subf : (⟨S8x19x512x512, .f32⟩ : BufTy).Contents (Elt F) → (⟨S8x19x512x512, .f32⟩ : BufTy).Contents (Elt F) → (⟨S8x19x512x512, .f32⟩ : BufTy).Contents (Elt F)),
    unary main_v5 main_v6 (Host.exp : (⟨S8x19x512x512, .f32⟩ : BufTy).Contents (Elt F) → (⟨S8x19x512x512, .f32⟩ : BufTy).Contents (Elt F)),
    nullary main_cst_1 (constant S_ .f32 0x00000000#32),
    binary main_v6 main_cst_1 main_v7 ((fun x v => Host.reduceAdd x v reducesTo_S8x19x512x512_S8x512x512_d1 h_S_) : (⟨S8x19x512x512, .f32⟩ : BufTy).Contents (Elt F) → (⟨S_, .f32⟩ : BufTy).Contents (Elt F) → (⟨S8x512x512, .f32⟩ : BufTy).Contents (Elt F)),
    unary main_v7 main_v8 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v8 main_v9 (broadcastInDim S8x19x512x512 ![0, 1, 2, 3] bcast_S8x1x512x512_S8x19x512x512_0_1_2_3 : (⟨S8x1x512x512, .f32⟩ : BufTy).Contents (Elt F) → (⟨S8x19x512x512, .f32⟩ : BufTy).Contents (Elt F)),
    binary main_v6 main_v9 main_v10 (Host.divf : (⟨S8x19x512x512, .f32⟩ : BufTy).Contents (Elt F) → (⟨S8x19x512x512, .f32⟩ : BufTy).Contents (Elt F) → (⟨S8x19x512x512, .f32⟩ : BufTy).Contents (Elt F)) ]

/-- The most probable class of every pixel. -/
abbrev argmaxOps : List (HloOp τ sig (Elt F)) :=
  [ TRef.nullary (.of main_call0_v0) (iotaInDim S8x19x512x512 32 1),
    TRef.nullary (.of main_call0_cst) (constant S_ .f32 0xFF800000#32),
    TRef.nullary (.of main_call0_c) (constantI S_ 32 0#32),
    TRef.quaternary (.of main_v10) (.of main_call0_v0) (.of main_call0_cst) (.of main_call0_c) (.of main_call0_v1_0) (fun x y u v j => (Host.argReduce reducer_argmax_f32_i32 x y u v reducesTo_S8x19x512x512_S8x512x512_d1 h_S_ j).1),
    TRef.quaternary (.of main_v10) (.of main_call0_v0) (.of main_call0_cst) (.of main_call0_c) (.of main_v11) (fun x y u v j => (Host.argReduce reducer_argmax_f32_i32 x y u v reducesTo_S8x19x512x512_S8x512x512_d1 h_S_ j).2) ]

/-- The cell of the table that every pixel counts in. -/
abbrev labelOps : List (HloOp τ sig (Elt F)) :=
  [ nullary main_c (constantI S_ 32 0#32),
    unary main_c main_v12 (broadcastInDim S8x512x512 ![] bcast_S_S8x512x512 : (⟨S_, .i32⟩ : BufTy).Contents (Elt F) → (⟨S8x512x512, .i32⟩ : BufTy).Contents (Elt F)),
    binary main_arg1 main_v12 main_v13 (cmpi .sge : (⟨S8x512x512, .i32⟩ : BufTy).Contents (Elt F) → (⟨S8x512x512, .i32⟩ : BufTy).Contents (Elt F) → (⟨S8x512x512, .i1⟩ : BufTy).Contents (Elt F)),
    nullary main_c_2 (constantI S_ 32 19#32),
    unary main_c_2 main_v14 (broadcastInDim S8x512x512 ![] bcast_S_S8x512x512 : (⟨S_, .i32⟩ : BufTy).Contents (Elt F) → (⟨S8x512x512, .i32⟩ : BufTy).Contents (Elt F)),
    binary main_arg1 main_v14 main_v15 (cmpi .slt : (⟨S8x512x512, .i32⟩ : BufTy).Contents (Elt F) → (⟨S8x512x512, .i32⟩ : BufTy).Contents (Elt F) → (⟨S8x512x512, .i1⟩ : BufTy).Contents (Elt F)),
    binary main_v13 main_v15 main_v16 (andi : (⟨S8x512x512, .i1⟩ : BufTy).Contents (Elt F) → (⟨S8x512x512, .i1⟩ : BufTy).Contents (Elt F) → (⟨S8x512x512, .i1⟩ : BufTy).Contents (Elt F)),
    nullary main_c_3 (constantI S_ 32 19#32),
    unary main_c_3 main_v17 (broadcastInDim S8x512x512 ![] bcast_S_S8x512x512 : (⟨S_, .i32⟩ : BufTy).Contents (Elt F) → (⟨S8x512x512, .i32⟩ : BufTy).Contents (Elt F)),
    binary main_v17 main_arg1 main_v18 (muli : (⟨S8x512x512, .i32⟩ : BufTy).Contents (Elt F) → (⟨S8x512x512, .i32⟩ : BufTy).Contents (Elt F) → (⟨S8x512x512, .i32⟩ : BufTy).Contents (Elt F)),
    binary main_v18 main_v11 main_v19 (addi : (⟨S8x512x512, .i32⟩ : BufTy).Contents (Elt F) → (⟨S8x512x512, .i32⟩ : BufTy).Contents (Elt F) → (⟨S8x512x512, .i32⟩ : BufTy).Contents (Elt F)),
    nullary main_c_4 (constantI S_ 32 0#32),
    TRef.unary (.of main_c_4) (.of main_call1_v0) id,
    TRef.unary (.of main_call1_v0) (.of main_call1_v1) (broadcastInDim S8x512x512 ![] bcast_S_S8x512x512),
    TRef.ternary (.of main_v16) (.of main_v19) (.of main_call1_v1) (.of main_v20) select ]

/-- The table of counts. -/
abbrev tableOps : List (HloOp τ sig (Elt F)) :=
  [ reshape main_v20 main_v21 (rfl : (.i32 : EltTy) = .i32) shapeCasts_S8x512x512_S2097152,
    unary main_v16 main_v22 (uitofp .f32 : (⟨S8x512x512, .i1⟩ : BufTy).Contents (Elt F) → (⟨S8x512x512, .f32⟩ : BufTy).Contents (Elt F)),
    reshape main_v22 main_v23 (rfl : (.f32 : EltTy) = .f32) shapeCasts_S8x512x512_S2097152,
    nullary main_cst_5 (constant S_ .f32 0x00000000#32),
    unary main_cst_5 main_v24 (broadcastInDim S361 ![] bcast_S_S361 : (⟨S_, .f32⟩ : BufTy).Contents (Elt F) → (⟨S361, .f32⟩ : BufTy).Contents (Elt F)),
    nullary main_c_6 (constantI S_ 32 0#32),
    TRef.unary (.of main_c_6) (.of main_call2_v0) id,
    TRef.unary (.of main_call2_v0) (.of main_call2_v1) (broadcastInDim S2097152 ![] bcast_S_S2097152),
    TRef.binary (.of main_call2_v1) (.of main_v21) (.of main_v25) maxsi,
    nullary main_c_7 (constantI S_ 32 0#32),
    unary main_c_7 main_v26 (broadcastInDim S2097152 ![] bcast_S_S2097152 : (⟨S_, .i32⟩ : BufTy).Contents (Elt F) → (⟨S2097152, .i32⟩ : BufTy).Contents (Elt F)),
    binary main_v25 main_v26 main_v27 (cmpi .slt : (⟨S2097152, .i32⟩ : BufTy).Contents (Elt F) → (⟨S2097152, .i32⟩ : BufTy).Contents (Elt F) → (⟨S2097152, .i1⟩ : BufTy).Contents (Elt F)),
    nullary main_c_8 (constantI S_ 32 361#32),
    unary main_c_8 main_v28 (broadcastInDim S2097152 ![] bcast_S_S2097152 : (⟨S_, .i32⟩ : BufTy).Contents (Elt F) → (⟨S2097152, .i32⟩ : BufTy).Contents (Elt F)),
    binary main_v25 main_v28 main_v29 (addi : (⟨S2097152, .i32⟩ : BufTy).Contents (Elt F) → (⟨S2097152, .i32⟩ : BufTy).Contents (Elt F) → (⟨S2097152, .i32⟩ : BufTy).Contents (Elt F)),
    ternary main_v27 main_v29 main_v25 main_v30 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v30 main_v31 (broadcastInDim S2097152x1 ![0] bcast_S2097152_S2097152x1_0 : (⟨S2097152, .i32⟩ : BufTy).Contents (Elt F) → (⟨S2097152x1, .i32⟩ : BufTy).Contents (Elt F)),
    ternary main_v24 main_v31 main_v23 main_v32 ((fun x i u => Host.scatterAdd scatter_S361_S2097152x1_S2097152_n_0_0_1 x i u) : (⟨S361, .f32⟩ : BufTy).Contents (Elt F) → (⟨S2097152x1, .i32⟩ : BufTy).Contents (Elt F) → (⟨S2097152, .f32⟩ : BufTy).Contents (Elt F) → (⟨S361, .f32⟩ : BufTy).Contents (Elt F)),
    reshape main_v32 main_v33 (rfl : (.f32 : EltTy) = .f32) shapeCasts_S361_S19x19 ]

/-- The diagonal of the table, and its lines' and columns' sums. -/
abbrev sideOps : List (HloOp τ sig (Elt F)) :=
  [ nullary main_v34 (iotaInDim S19x19 32 0),
    nullary main_v35 (iotaInDim S19x19 32 1),
    nullary main_c_9 (constantI S_ 32 0#32),
    unary main_c_9 main_v36 (broadcastInDim S19x19 ![] bcast_S_S19x19 : (⟨S_, .i32⟩ : BufTy).Contents (Elt F) → (⟨S19x19, .i32⟩ : BufTy).Contents (Elt F)),
    binary main_v34 main_v36 main_v37 (addi : (⟨S19x19, .i32⟩ : BufTy).Contents (Elt F) → (⟨S19x19, .i32⟩ : BufTy).Contents (Elt F) → (⟨S19x19, .i32⟩ : BufTy).Contents (Elt F)),
    binary main_v37 main_v35 main_v38 (cmpi .eq : (⟨S19x19, .i32⟩ : BufTy).Contents (Elt F) → (⟨S19x19, .i32⟩ : BufTy).Contents (Elt F) → (⟨S19x19, .i1⟩ : BufTy).Contents (Elt F)),
    nullary main_cst_10 (constant S_ .f32 0x00000000#32),
    TRef.unary (.of main_cst_10) (.of main_call3_v0) id,
    TRef.unary (.of main_call3_v0) (.of main_call3_v1) (broadcastInDim S19x19 ![] bcast_S_S19x19),
    TRef.ternary (.of main_v38) (.of main_v33) (.of main_call3_v1) (.of main_v39) select,
    nullary main_cst_11 (constant S_ .f32 0x00000000#32),
    binary main_v39 main_cst_11 main_v40 ((fun x v => Host.reduceAdd x v reducesTo_S19x19_S19_d1 h_S_) : (⟨S19x19, .f32⟩ : BufTy).Contents (Elt F) → (⟨S_, .f32⟩ : BufTy).Contents (Elt F) → (⟨S19, .f32⟩ : BufTy).Contents (Elt F)),
    nullary main_cst_12 (constant S_ .f32 0x00000000#32),
    binary main_v33 main_cst_12 main_v41 ((fun x v => Host.reduceAdd x v reducesTo_S19x19_S19_d1 h_S_) : (⟨S19x19, .f32⟩ : BufTy).Contents (Elt F) → (⟨S_, .f32⟩ : BufTy).Contents (Elt F) → (⟨S19, .f32⟩ : BufTy).Contents (Elt F)),
    nullary main_cst_13 (constant S_ .f32 0x00000000#32),
    binary main_v33 main_cst_13 main_v42 ((fun x v => Host.reduceAdd x v reducesTo_S19x19_S19_d0 h_S_) : (⟨S19x19, .f32⟩ : BufTy).Contents (Elt F) → (⟨S_, .f32⟩ : BufTy).Contents (Elt F) → (⟨S19, .f32⟩ : BufTy).Contents (Elt F)),
    binary main_v41 main_v42 main_v43 (addf : (⟨S19, .f32⟩ : BufTy).Contents (Elt F) → (⟨S19, .f32⟩ : BufTy).Contents (Elt F) → (⟨S19, .f32⟩ : BufTy).Contents (Elt F)) ]

/-- The classes' intersections over unions, and their mean. -/
abbrev meanOps : List (HloOp τ sig (Elt F)) :=
  [ binary main_v43 main_v40 main_v44 (subf : (⟨S19, .f32⟩ : BufTy).Contents (Elt F) → (⟨S19, .f32⟩ : BufTy).Contents (Elt F) → (⟨S19, .f32⟩ : BufTy).Contents (Elt F)),
    nullary main_cst_14 (constant S_ .f32 0x00000000#32),
    unary main_cst_14 main_v45 (broadcastInDim S19 ![] bcast_S_S19 : (⟨S_, .f32⟩ : BufTy).Contents (Elt F) → (⟨S19, .f32⟩ : BufTy).Contents (Elt F)),
    binary main_v44 main_v45 main_v46 (cmpf .ogt : (⟨S19, .f32⟩ : BufTy).Contents (Elt F) → (⟨S19, .f32⟩ : BufTy).Contents (Elt F) → (⟨S19, .i1⟩ : BufTy).Contents (Elt F)),
    nullary main_cst_15 (constant S_ .f32 0x00000000#32),
    unary main_cst_15 main_v47 (broadcastInDim S19 ![] bcast_S_S19 : (⟨S_, .f32⟩ : BufTy).Contents (Elt F) → (⟨S19, .f32⟩ : BufTy).Contents (Elt F)),
    binary main_v44 main_v47 main_v48 (cmpf .ogt : (⟨S19, .f32⟩ : BufTy).Contents (Elt F) → (⟨S19, .f32⟩ : BufTy).Contents (Elt F) → (⟨S19, .i1⟩ : BufTy).Contents (Elt F)),
    nullary main_cst_16 (constant S_ .f32 0x3F800000#32),
    TRef.unary (.of main_cst_16) (.of main_call4_v0) id,
    TRef.unary (.of main_call4_v0) (.of main_call4_v1) (broadcastInDim S19 ![] bcast_S_S19),
    TRef.ternary (.of main_v48) (.of main_v44) (.of main_call4_v1) (.of main_v49) select,
    binary main_v40 main_v49 main_v50 (Host.divf : (⟨S19, .f32⟩ : BufTy).Contents (Elt F) → (⟨S19, .f32⟩ : BufTy).Contents (Elt F) → (⟨S19, .f32⟩ : BufTy).Contents (Elt F)),
    nullary main_cst_17 (constant S_ .f32 0x00000000#32),
    TRef.unary (.of main_cst_17) (.of main_call5_v0) id,
    TRef.unary (.of main_call5_v0) (.of main_call5_v1) (broadcastInDim S19 ![] bcast_S_S19),
    TRef.ternary (.of main_v46) (.of main_v50) (.of main_call5_v1) (.of main_v51) select,
    nullary main_cst_18 (constant S_ .f32 0x00000000#32),
    binary main_v51 main_cst_18 main_v52 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    nullary main_cst_19 (constant S_ .f32 0x41980000#32),
    binary main_v52 main_cst_19 main_v53 (Host.divf : (⟨S_, .f32⟩ : BufTy).Contents (Elt F) → (⟨S_, .f32⟩ : BufTy).Contents (Elt F) → (⟨S_, .f32⟩ : BufTy).Contents (Elt F)) ]

/-- The mean weighted by the classes' frequencies. -/
abbrev freqOps : List (HloOp τ sig (Elt F)) :=
  [ nullary main_cst_20 (constant S_ .f32 0x00000000#32),
    binary main_v33 main_cst_20 main_v54 ((fun x v => Host.reduceAdd x v reducesTo_S19x19_S_d0_1 h_S_) : (⟨S19x19, .f32⟩ : BufTy).Contents (Elt F) → (⟨S_, .f32⟩ : BufTy).Contents (Elt F) → (⟨S_, .f32⟩ : BufTy).Contents (Elt F)),
    nullary main_cst_21 (constant S_ .f32 0x00000000#32),
    binary main_v33 main_cst_21 main_v55 ((fun x v => Host.reduceAdd x v reducesTo_S19x19_S19_d1 h_S_) : (⟨S19x19, .f32⟩ : BufTy).Contents (Elt F) → (⟨S_, .f32⟩ : BufTy).Contents (Elt F) → (⟨S19, .f32⟩ : BufTy).Contents (Elt F)),
    nullary main_cst_22 (constant S_ .f32 0x00000000#32),
    binary main_v54 main_cst_22 main_v56 (cmpf .ogt : (⟨S_, .f32⟩ : BufTy).Contents (Elt F) → (⟨S_, .f32⟩ : BufTy).Contents (Elt F) → (⟨S_, .i1⟩ : BufTy).Contents (Elt F)),
    nullary main_cst_23 (constant S_ .f32 0x3F800000#32),
    TRef.unary (.of main_cst_23) (.of main_call6_v0) id,
    TRef.ternary (.of main_v56) (.of main_v54) (.of main_call6_v0) (.of main_v57) select,
    unary main_v57 main_v58 (broadcastInDim S19 ![] bcast_S_S19 : (⟨S_, .f32⟩ : BufTy).Contents (Elt F) → (⟨S19, .f32⟩ : BufTy).Contents (Elt F)),
    binary main_v55 main_v58 main_v59 (Host.divf : (⟨S19, .f32⟩ : BufTy).Contents (Elt F) → (⟨S19, .f32⟩ : BufTy).Contents (Elt F) → (⟨S19, .f32⟩ : BufTy).Contents (Elt F)),
    nullary main_cst_24 (constant S_ .f32 0x00000000#32),
    unary main_cst_24 main_v60 (broadcastInDim S19 ![] bcast_S_S19 : (⟨S_, .f32⟩ : BufTy).Contents (Elt F) → (⟨S19, .f32⟩ : BufTy).Contents (Elt F)),
    binary main_v59 main_v60 main_v61 (cmpf .ogt : (⟨S19, .f32⟩ : BufTy).Contents (Elt F) → (⟨S19, .f32⟩ : BufTy).Contents (Elt F) → (⟨S19, .i1⟩ : BufTy).Contents (Elt F)),
    binary main_v59 main_v51 main_v62 (mulf : (⟨S19, .f32⟩ : BufTy).Contents (Elt F) → (⟨S19, .f32⟩ : BufTy).Contents (Elt F) → (⟨S19, .f32⟩ : BufTy).Contents (Elt F)),
    nullary main_cst_25 (constant S_ .f32 0x00000000#32),
    TRef.unary (.of main_cst_25) (.of main_call7_v0) id,
    TRef.unary (.of main_call7_v0) (.of main_call7_v1) (broadcastInDim S19 ![] bcast_S_S19),
    TRef.ternary (.of main_v61) (.of main_v62) (.of main_call7_v1) (.of main_v63) select,
    nullary main_cst_26 (constant S_ .f32 0x00000000#32),
    binary main_v63 main_cst_26 main_v64 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)) ]

/-- The program's operations. -/
abbrev allOps : List (HloOp τ sig (Elt F)) :=
  (softmaxOps ++ (argmaxOps ++ (labelOps ++ (tableOps ++ sideOps)))) ++ (meanOps ++ freqOps)

set_option maxRecDepth 8192 in
set_option maxHeartbeats 4000000 in
theorem part0_eq (c : Dev nD) : main_part0 (F := F) c
    = seq (softmaxOps ++ (argmaxOps ++ (labelOps ++ (tableOps ++ sideOps)))) := rfl

set_option maxRecDepth 8192 in
set_option maxHeartbeats 4000000 in
theorem part1_eq (c : Dev nD) : main_part1 (F := F) c = seq (meanOps ++ freqOps) := rfl

theorem main_eq (c : Dev nD) : main (F := F) c = seq allOps := by
  rw [allOps, seq_append, ← part0_eq c, ← part1_eq c]
  rfl

end Cert.Proof.RefRun
-- ==== Proof.RefRun.lean ====
module

public import proofs.«01_k».proof.Proof.RefOps

/-! The reference's run: what its windows leave, and the results as functions of the two arguments. -/

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ### Every operation stays on the device's buffers and makes none -/

/-- An operation of the TensorCore's buffers which makes none. -/
abbrev Plain (op : HloOp τ sig (Elt F)) : Prop := op.bufs ⊆ tcRefs τ sig ∧ op.fresh = ∅

set_option maxRecDepth 8192 in
theorem softmax_plain : (softmaxOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

set_option maxRecDepth 8192 in
theorem argmax_plain : (argmaxOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

set_option maxRecDepth 8192 in
theorem label_plain : (labelOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

set_option maxRecDepth 8192 in
theorem table_plain : (tableOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

set_option maxRecDepth 8192 in
theorem side_plain : (sideOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

set_option maxRecDepth 8192 in
theorem mean_plain : (meanOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

set_option maxRecDepth 8192 in
theorem freq_plain : (freqOps : List (HloOp τ sig (Elt F))).Forall Plain := by
  simp only [List.Forall, Plain, TRef.nullary, TRef.unary, TRef.binary, TRef.ternary, TRef.quaternary,
    nullary_bufs_sub, unary_bufs_sub, binary_bufs_sub, ternary_bufs_sub, quaternary_bufs_sub, reshape_bufs_sub, true_and]
  repeat' apply And.intro
  all_goals rfl

/-! ### What the windows write -/

/-- What they write. -/
abbrev softmaxWrites : List (Ref sig .tc) :=
  [main_cst, main_v0, main_cst_0, main_v1, main_v2, main_v3, main_v4, main_v5, main_v6,
   main_cst_1, main_v7, main_v8, main_v9, main_v10]

/-- What they write. -/
abbrev argmaxWrites : List (Ref sig .tc) :=
  [main_call0_v0, main_call0_cst, main_call0_c, main_call0_v1_0, main_v11]

/-- What they write. -/
abbrev labelWrites : List (Ref sig .tc) :=
  [main_c, main_v12, main_v13, main_c_2, main_v14, main_v15, main_v16, main_c_3, main_v17,
   main_v18, main_v19, main_c_4, main_call1_v0, main_call1_v1, main_v20]

/-- What they write. -/
abbrev tableWrites : List (Ref sig .tc) :=
  [main_v21, main_v22, main_v23, main_cst_5, main_v24, main_c_6, main_call2_v0, main_call2_v1,
   main_v25, main_c_7, main_v26, main_v27, main_c_8, main_v28, main_v29, main_v30, main_v31,
   main_v32, main_v33]

/-- What they write. -/
abbrev sideWrites : List (Ref sig .tc) :=
  [main_v34, main_v35, main_c_9, main_v36, main_v37, main_v38, main_cst_10, main_call3_v0,
   main_call3_v1, main_v39, main_cst_11, main_v40, main_cst_12, main_v41, main_cst_13, main_v42,
   main_v43]

/-- What they write. -/
abbrev meanWrites : List (Ref sig .tc) :=
  [main_v44, main_cst_14, main_v45, main_v46, main_cst_15, main_v47, main_v48, main_cst_16,
   main_call4_v0, main_call4_v1, main_v49, main_v50, main_cst_17, main_call5_v0, main_call5_v1,
   main_v51, main_cst_18, main_v52, main_cst_19, main_v53]

/-- What they write. -/
abbrev freqWrites : List (Ref sig .tc) :=
  [main_cst_20, main_v54, main_cst_21, main_v55, main_cst_22, main_v56, main_cst_23,
   main_call6_v0, main_v57, main_v58, main_v59, main_cst_24, main_v60, main_v61, main_v62,
   main_cst_25, main_call7_v0, main_call7_v1, main_v63, main_cst_26, main_v64]

set_option maxRecDepth 8192 in
theorem softmax_writes : (softmaxOps : List (HloOp τ sig (Elt F))).Forall fun op =>
    op.writes ⊆ (softmaxWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem softmax_keep (V : Valuation τ sig (Elt F)) (r : Ref sig .tc) (h : r ∉ softmaxWrites) :
    after softmaxOps V (Proc.devRef .tc r) = V (Proc.devRef .tc r) :=
  after_of_writes_sub softmaxOps _ softmax_writes h

set_option maxRecDepth 8192 in
theorem argmax_writes : (argmaxOps : List (HloOp τ sig (Elt F))).Forall fun op =>
    op.writes ⊆ (argmaxWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem argmax_keep (V : Valuation τ sig (Elt F)) (r : Ref sig .tc) (h : r ∉ argmaxWrites) :
    after argmaxOps V (Proc.devRef .tc r) = V (Proc.devRef .tc r) :=
  after_of_writes_sub argmaxOps _ argmax_writes h

set_option maxRecDepth 8192 in
theorem label_writes : (labelOps : List (HloOp τ sig (Elt F))).Forall fun op =>
    op.writes ⊆ (labelWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem label_keep (V : Valuation τ sig (Elt F)) (r : Ref sig .tc) (h : r ∉ labelWrites) :
    after labelOps V (Proc.devRef .tc r) = V (Proc.devRef .tc r) :=
  after_of_writes_sub labelOps _ label_writes h

set_option maxRecDepth 8192 in
theorem table_writes : (tableOps : List (HloOp τ sig (Elt F))).Forall fun op =>
    op.writes ⊆ (tableWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem table_keep (V : Valuation τ sig (Elt F)) (r : Ref sig .tc) (h : r ∉ tableWrites) :
    after tableOps V (Proc.devRef .tc r) = V (Proc.devRef .tc r) :=
  after_of_writes_sub tableOps _ table_writes h

set_option maxRecDepth 8192 in
theorem side_writes : (sideOps : List (HloOp τ sig (Elt F))).Forall fun op =>
    op.writes ⊆ (sideWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem side_keep (V : Valuation τ sig (Elt F)) (r : Ref sig .tc) (h : r ∉ sideWrites) :
    after sideOps V (Proc.devRef .tc r) = V (Proc.devRef .tc r) :=
  after_of_writes_sub sideOps _ side_writes h

set_option maxRecDepth 8192 in
theorem mean_writes : (meanOps : List (HloOp τ sig (Elt F))).Forall fun op =>
    op.writes ⊆ (meanWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem mean_keep (V : Valuation τ sig (Elt F)) (r : Ref sig .tc) (h : r ∉ meanWrites) :
    after meanOps V (Proc.devRef .tc r) = V (Proc.devRef .tc r) :=
  after_of_writes_sub meanOps _ mean_writes h

set_option maxRecDepth 8192 in
theorem freq_writes : (freqOps : List (HloOp τ sig (Elt F))).Forall fun op =>
    op.writes ⊆ (freqWrites.map (Proc.devRef (τ := τ) .tc)).toFinset := by
  simp only [List.Forall]
  repeat' apply And.intro
  all_goals
    (simp only [nullary_writes, unary_writes, binary_writes, ternary_writes, quaternary_writes, reshape_writes,
      TRef.nullary, TRef.unary, TRef.binary, TRef.ternary, TRef.quaternary,
      Finset.singleton_subset_iff, List.mem_toFinset]; exact List.mem_map_of_mem (by decide))

theorem freq_keep (V : Valuation τ sig (Elt F)) (r : Ref sig .tc) (h : r ∉ freqWrites) :
    after freqOps V (Proc.devRef .tc r) = V (Proc.devRef .tc r) :=
  after_of_writes_sub freqOps _ freq_writes h

/-! ### What the windows leave -/

set_option maxRecDepth 8192 in
set_option maxHeartbeats 2000000 in
theorem softmax_v10 (V : Valuation τ sig (Elt F)) :
    after softmaxOps V (Proc.devRef .tc main_v10) = prob (V (Proc.devRef .tc main_arg0)) := by
  simp only [softmaxOps, TRef.nullary, TRef.unary, TRef.binary, TRef.ternary, TRef.quaternary, TRef.toBuf, TRef.ofBuf, cast_eq]
  after_results_simp
  rfl

set_option maxRecDepth 8192 in
set_option maxHeartbeats 2000000 in
theorem argmax_v11 (V : Valuation τ sig (Elt F)) :
    after argmaxOps V (Proc.devRef .tc main_v11) = pick (V (Proc.devRef .tc main_v10)) := by
  simp only [argmaxOps, TRef.nullary, TRef.unary, TRef.binary, TRef.ternary, TRef.quaternary, TRef.toBuf, TRef.ofBuf, cast_eq]
  after_results_simp
  rfl

set_option maxRecDepth 8192 in
set_option maxHeartbeats 2000000 in
theorem label_v16 (V : Valuation τ sig (Elt F)) :
    after labelOps V (Proc.devRef .tc main_v16) = valid (V (Proc.devRef .tc main_arg1)) := by
  simp only [labelOps, TRef.nullary, TRef.unary, TRef.binary, TRef.ternary, TRef.quaternary, TRef.toBuf, TRef.ofBuf, cast_eq]
  after_results_simp
  rfl

set_option maxRecDepth 8192 in
set_option maxHeartbeats 2000000 in
theorem label_v20 (V : Valuation τ sig (Elt F)) :
    after labelOps V (Proc.devRef .tc main_v20) = cell (V (Proc.devRef .tc main_arg1)) (V (Proc.devRef .tc main_v11)) := by
  simp only [labelOps, TRef.nullary, TRef.unary, TRef.binary, TRef.ternary, TRef.quaternary, TRef.toBuf, TRef.ofBuf, cast_eq]
  after_results_simp
  rfl

set_option maxRecDepth 8192 in
set_option maxHeartbeats 2000000 in
theorem table_v33 (V : Valuation τ sig (Elt F)) :
    after tableOps V (Proc.devRef .tc main_v33) = table (V (Proc.devRef .tc main_v16)) (V (Proc.devRef .tc main_v20)) := by
  simp only [tableOps, TRef.nullary, TRef.unary, TRef.binary, TRef.ternary, TRef.quaternary, TRef.toBuf, TRef.ofBuf, cast_eq]
  after_results_simp
  rfl

set_option maxRecDepth 8192 in
set_option maxHeartbeats 2000000 in
theorem side_v40 (V : Valuation τ sig (Elt F)) :
    after sideOps V (Proc.devRef .tc main_v40) = inter (V (Proc.devRef .tc main_v33)) := by
  simp only [sideOps, TRef.nullary, TRef.unary, TRef.binary, TRef.ternary, TRef.quaternary, TRef.toBuf, TRef.ofBuf, cast_eq]
  after_results_simp
  rfl

set_option maxRecDepth 8192 in
set_option maxHeartbeats 2000000 in
theorem side_v43 (V : Valuation τ sig (Elt F)) :
    after sideOps V (Proc.devRef .tc main_v43) = sides (V (Proc.devRef .tc main_v33)) := by
  simp only [sideOps, TRef.nullary, TRef.unary, TRef.binary, TRef.ternary, TRef.quaternary, TRef.toBuf, TRef.ofBuf, cast_eq]
  after_results_simp
  rfl

set_option maxRecDepth 8192 in
set_option maxHeartbeats 2000000 in
theorem mean_v51 (V : Valuation τ sig (Elt F)) :
    after meanOps V (Proc.devRef .tc main_v51) = iou (V (Proc.devRef .tc main_v40)) (subf (V (Proc.devRef .tc main_v43)) (V (Proc.devRef .tc main_v40))) := by
  simp only [meanOps, TRef.nullary, TRef.unary, TRef.binary, TRef.ternary, TRef.quaternary, TRef.toBuf, TRef.ofBuf, cast_eq]
  after_results_simp
  rfl

set_option maxRecDepth 8192 in
set_option maxHeartbeats 2000000 in
theorem mean_v53 (V : Valuation τ sig (Elt F)) :
    after meanOps V (Proc.devRef .tc main_v53) = mean (iou (V (Proc.devRef .tc main_v40)) (subf (V (Proc.devRef .tc main_v43)) (V (Proc.devRef .tc main_v40)))) := by
  simp only [meanOps, TRef.nullary, TRef.unary, TRef.binary, TRef.ternary, TRef.quaternary, TRef.toBuf, TRef.ofBuf, cast_eq]
  after_results_simp
  rfl

set_option maxRecDepth 8192 in
set_option maxHeartbeats 2000000 in
theorem freq_v64 (V : Valuation τ sig (Elt F)) :
    after freqOps V (Proc.devRef .tc main_v64) = weighted (V (Proc.devRef .tc main_v33)) (V (Proc.devRef .tc main_v51)) := by
  simp only [freqOps, TRef.nullary, TRef.unary, TRef.binary, TRef.ternary, TRef.quaternary, TRef.toBuf, TRef.ofBuf, cast_eq]
  after_results_simp
  rfl

/-! ### The run -/

/-- The table of the two arguments. -/
def tableOf (x : S8x19x512x512.Idx → F .f32) (mk : S8x512x512.Idx → BitVec 32) : S19x19.Idx → F .f32 :=
  table (valid mk) (cell mk (pick (prob x)))

/-- A table's intersections over unions. -/
def iouOf (t : S19x19.Idx → F .f32) : S19.Idx → F .f32 := iou (inter t) (subf (sides t) (inter t))

theorem plain_of_mem {op : HloOp τ sig (Elt F)} (h : op ∈ (allOps : List (HloOp τ sig (Elt F)))) : Plain op := by
  simp only [allOps, List.mem_append] at h
  rcases h with (h | h | h | h | h) | h | h
  exacts [List.forall_iff_forall_mem.mp softmax_plain op h, List.forall_iff_forall_mem.mp argmax_plain op h,
    List.forall_iff_forall_mem.mp label_plain op h, List.forall_iff_forall_mem.mp table_plain op h,
    List.forall_iff_forall_mem.mp side_plain op h, List.forall_iff_forall_mem.mp mean_plain op h,
    List.forall_iff_forall_mem.mp freq_plain op h]

/-- The operations, window by window. -/
theorem after_all (V : Valuation τ sig (Elt F)) : after allOps V
    = after freqOps (after meanOps (after sideOps (after tableOps (after labelOps (after argmaxOps (after softmaxOps V)))))) := by
  simp only [allOps, after_append]

/-- An argument keeps its contents. -/
theorem all_arg0 (V : Valuation τ sig (Elt F)) :
    after allOps V (Proc.devRef .tc main_arg0) = V (Proc.devRef .tc main_arg0) := by
  rw [after_all, freq_keep _ _ (by decide), mean_keep _ _ (by decide), side_keep _ _ (by decide),
    table_keep _ _ (by decide), label_keep _ _ (by decide), argmax_keep _ _ (by decide), softmax_keep _ _ (by decide)]

/-- An argument keeps its contents. -/
theorem all_arg1 (V : Valuation τ sig (Elt F)) :
    after allOps V (Proc.devRef .tc main_arg1) = V (Proc.devRef .tc main_arg1) := by
  rw [after_all, freq_keep _ _ (by decide), mean_keep _ _ (by decide), side_keep _ _ (by decide),
    table_keep _ _ (by decide), label_keep _ _ (by decide), argmax_keep _ _ (by decide), softmax_keep _ _ (by decide)]

/-- The table after its window. -/
theorem made_table (V : Valuation τ sig (Elt F)) :
    after tableOps (after labelOps (after argmaxOps (after softmaxOps V))) (Proc.devRef .tc main_v33)
      = tableOf (V (Proc.devRef .tc main_arg0)) (V (Proc.devRef .tc main_arg1)) := by
  rw [table_v33, label_v16, label_v20, argmax_v11, softmax_v10, argmax_keep _ main_arg1 (by decide),
    softmax_keep _ main_arg1 (by decide)]
  rfl

/-- The first result. -/
theorem all_v53 (V : Valuation τ sig (Elt F)) : after allOps V (Proc.devRef .tc main_v53)
    = mean (iouOf (tableOf (V (Proc.devRef .tc main_arg0)) (V (Proc.devRef .tc main_arg1)))) := by
  rw [after_all, freq_keep _ _ (by decide), mean_v53, side_v40, side_v43, made_table]
  rfl

/-- The second result. -/
theorem all_v64 (V : Valuation τ sig (Elt F)) : after allOps V (Proc.devRef .tc main_v64)
    = weighted (tableOf (V (Proc.devRef .tc main_arg0)) (V (Proc.devRef .tc main_arg1)))
        (iouOf (tableOf (V (Proc.devRef .tc main_arg0)) (V (Proc.devRef .tc main_arg1)))) := by
  rw [after_all, freq_v64, mean_v51, mean_keep _ main_v33 (by decide), side_v40, side_v43,
    side_keep _ main_v33 (by decide), made_table]
  rfl

theorem no_scoped_refs : (Finset.univ.filter fun b : Ref sig .tc => b.isScoped) = ∅ := by decide
theorem no_scoped_sems : (Finset.univ.filter fun sm : SemLoc sig => sm.isScoped .tc) = ∅ := by decide

/-- The reference runs to its end; its results are the two means of the table of its arguments, which it
keeps. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = mean (iouOf (tableOf (m ((c.tc : Thread nD τ).loc main_arg0)) (m ((c.tc : Thread nD τ).loc main_arg1))))
      ∧ r.2.mem ((c.tc : Thread nD τ).loc main_v64) = weighted (tableOf (m ((c.tc : Thread nD τ).loc main_arg0)) (m ((c.tc : Thread nD τ).loc main_arg1)))
          (iouOf (tableOf (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v53).trans (all_v53 _), (h c main_v64).trans (all_v64 _),
      (h c main_arg0).trans (all_arg0 _), (h c main_arg1).trans (all_arg1 _)⟩)
    (run_seq no_scoped_refs no_scoped_sems defs main (fun _ => allOps) main_eq
      (fun _ => List.forall_iff_forall_mem.mpr fun _ h => (plain_of_mem h).1) m ρ fun _ _ h => (plain_of_mem h).2)

end Cert.Proof.RefRun
-- ==== Proof.Frames.lean ====
module

public import proofs.«01_k».proof.Defs
public import proofs.«01_k».proof.Proof.Gen.Kernel
public import proofs.«01_k».proof.Proof.Main
public import proofs.«01_k».proof.Proof.Labels
public import proofs.«01_k».proof.Proof.RefRun

/-! The frames: the kernel, its idealization and the reference run to their ends, keep their arguments and leave
every counter at zero. -/

@[expose] public section

noncomputable section

namespace Cert.Proof.Frames

open Idealize.ShloMosaic Idealize.SL.Sem
open Cert.Proof.Main

instance bits_nonempty : ∀ e, Nonempty (Elt Bits e) := fun e => by cases e <;> exact ⟨(0 : BitVec _)⟩
instance ideal_nonempty : ∀ e, Nonempty (Elt Ideal e) := fun e => by cases e <;> first | exact ⟨(0 : BitVec _)⟩ | exact ⟨(0 : ℝ)⟩

/-- The idealization's frame. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun k d => Labels.labels_ok (Labels.classes_in_range (hpre d)) k)

section Same

set_option maxRecDepth 16384
set_option maxHeartbeats 4000000

/-- The bodies are the same text. -/
theorem bodies_same (p ℓ a) : Cert.Kernel.defs₀ (F := Bits) p ℓ a = Cert.KernelIdeal.defs₀ (F := Bits) p ℓ a :=
  match p, ℓ, a with
  | .tc, 0, _ => rfl | .tc, 1, _ => rfl | .tc, 2, _ => rfl | .tc, 3, _ => rfl | .tc, 4, _ => rfl
  | .scScalar _, 0, _ => rfl | .scScalar _, 1, _ => rfl | .scScalar _, 2, _ => rfl | .scScalar _, 3, _ => rfl
  | .scScalar _, 4, _ => rfl
  | .scVector _ _, 0, _ => rfl | .scVector _ _, 1, _ => rfl | .scVector _ _, 2, _ => rfl
  | .scVector _ _, 3, _ => rfl | .scVector _ _, 4, _ => rfl

/-- The tables of the bodies are one. -/
theorem tables_same : Cert.Kernel.defs (F := Bits) = Cert.KernelIdeal.defs (F := Bits) :=
  congrArg (fun D => Cert.KernelIdeal.sc.defs (Pipeline.defs Cert.KernelIdeal.pcfgs D))
    (funext fun p => funext fun ℓ => funext fun a => bodies_same p ℓ a)

/-- The programs of the threads are one. -/
theorem threads_same : Cert.Kernel.threads (F := Bits) = Cert.KernelIdeal.threads (F := Bits) := rfl

end Same

/-- The idealization's run at the machine's floats. -/
theorem run_bits (m : (ℓ : Loc Cert.Kernel.nD Cert.Kernel.τ Cert.Kernel.sig) → Buf (Elt Bits) ℓ)
    (ρ : Dev Cert.Kernel.nD → PrngReg) (h : ∀ k d, Task.LabelsOK (X m k d)) :
    θ_run (Cert.KernelIdeal.defs (F := Bits)) (Cert.KernelIdeal.threads (F := Bits)) ⟨m, fun _ => 0, ρ⟩
      (fun r => (∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) :=
  (θ_run Cert.KernelIdeal.defs _ _).mono (fun _ h => ⟨fun c => ⟨(h.1 c).1, (h.1 c).2.1⟩, h.2⟩)
    (run_main (F := Bits) m ρ h)

/-- The kernel's frame. -/
theorem frame_bits : Cert.quiescent_Kernel := fun m ρ hpre => by
  rw [tables_same]
  exact run_bits m ρ fun k d => Labels.labels_ok (Labels.classes_in_range (hpre d)) k

/-- The reference's frame. -/
theorem frame_ref : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (RefRun.run_ref (F := Ideal) m ρ)

end Cert.Proof.Frames
-- ==== Proof.Admissible.lean ====
module

public import proofs.«01_k».proof.Proof.Labels
public import proofs.«01_k».proof.Proof.Gen.Pre_admissible
public import Idealize.ShloMosaic.Lib.Pointwise

/-! What the value claim's precondition says: the classes of the mask are in range and the logits are real numbers. -/

@[expose] public section

noncomputable section

namespace Cert.Proof.Admissible

open Cert.KernelIdeal Cert.KernelIdeal.Gen
open Idealize.ShloMosaic
open Cert.Proof.Labels

variable {x : S8x19x512x512.Idx → Ideal .f32} {mk : S8x512x512.Idx → BitVec 32}

/-- The mask's classes are in range. -/
theorem in_range (h : Cert.Pre_admissible.fn (F := Ideal) x mk = fun _ => 1#1) : InRange mk := fun i => by
  obtain ⟨h1, hlt⟩ := both (congrFun h (fun a => a.elim0 : S_.Idx))
  obtain ⟨_, hge⟩ := both h1
  exact word_lt (Host.reduce_andi_all _ _ _ _ _ hge i) (Host.reduce_andi_all _ _ _ _ _ hlt i)

/-- An extended real whose size is below infinity is a real number. -/
theorem real_of_size {y : Ideal .f32}
    (h : FloatOps.cmpf (F := Ideal) .olt (FloatOps.hostAbsf y) (FloatOps.ofBits .f32 0x7F800000#32) = 1#1) :
    y ≠ (⊤ : EReal) ∧ y ≠ (⊥ : EReal) := by
  have htop : Ideal.ofBits .f32 0x7F800000#32 = (⊤ : EReal) := by simp [Ideal.ofBits, Ideal.ieee]
  have h' : Ideal.cmp .olt (max (y : EReal) (-(y : EReal))) (Ideal.ofBits .f32 0x7F800000#32) = 1#1 := h
  rw [htop] at h'
  have hlt : max (y : EReal) (-(y : EReal)) < ⊤ := (Ideal.cmp_olt_eq_one _ _).mp h'
  refine ⟨fun e => ?_, fun e => ?_⟩ <;> rw [e] at hlt <;> simp at hlt

/-- Every logit is a real number. -/
theorem real_logits (h : Cert.Pre_admissible.fn (F := Ideal) x mk = fun _ => 1#1) (j : S8x19x512x512.Idx) :
    x j ≠ (⊤ : EReal) ∧ x j ≠ (⊥ : EReal) := by
  obtain ⟨h1, _⟩ := both (congrFun h (fun a => a.elim0 : S_.Idx))
  obtain ⟨hf, _⟩ := both h1
  exact real_of_size (Host.reduce_andi_all _ _ _ _ _ hf j)

end Cert.Proof.Admissible
-- ==== Proof.Scores.lean ====
module

public import proofs.«01_k».proof.Proof.StatsBody
public import Idealize.ShloMosaic.Lib.Pointwise
public import Idealize.ShloMosaic.Lib.Pipeline.ValueKit.Tiles

/-! The two scores of a table of counts over the extended reals, and that the last call's two payloads are the
scores of the counts' column sums. -/

@[expose] public section

noncomputable section

namespace Cert.Proof.Scores

open Cert.KernelIdeal Cert.KernelIdeal.Gen Idealize.ShloMosaic

/-- A table of nineteen lines and nineteen columns. -/
abbrev Table := Fin 19 → Fin 19 → EReal

variable (T : Table) (a : Fin 19)

/-- A line's sum. -/
def rowSum : EReal := ∑ b, T a b

/-- A column's sum. -/
def colSum : EReal := ∑ b, T b a

/-- A class's union. -/
def union : EReal := rowSum T a + colSum T a - T a a

/-- Intersection over union, zero of an empty union. -/
def ratio : EReal :=
  if 0 < union T a then Ideal.div (T a a) (if 0 < union T a then union T a else 1) else 0

/-- The mean of the ratios. -/
def meanScore : EReal := Ideal.div (∑ a, ratio T a) (Ideal.ofBits .f32 0x41980000#32)

/-- The table's sum, one of an empty table. -/
def whole : EReal := if 0 < ∑ a, rowSum T a then ∑ a, rowSum T a else 1

/-- A class's frequency. -/
def share : EReal := Ideal.div (rowSum T a) (whole T)

/-- The mean of the ratios weighted by the frequencies. -/
def weightedScore : EReal := ∑ a, if 0 < share T a then share T a * ratio T a else 0

/-- A float select on "greater than zero", at the extended reals. -/
theorem select_pos {u x y : EReal} : Scalar.select (Ideal.cmp .ogt u 0) x y = if 0 < u then x else y := by
  unfold Scalar.select Ideal.cmp
  by_cases h : 0 < u <;> simp [h]

/-- The place in a line of 512 counts of a cell. -/
def col (a b : Fin 19) : Fin 512 := ⟨19 * a.val + b.val, by omega⟩

/-- The table that two blocks of counts hold. -/
def sumsOf (A B : S32x512.Idx → EReal) : Table := fun a b => ∑ k : Fin 32, (A (ix2 k (col a b)) + B (ix2 k (col a b)))

variable (A B : S32x512.Idx → EReal)

/-- The column sums of two blocks of counts, as one line. -/
def sumLine : S1x512.Idx → EReal :=
  shapeCast S1x512 (multiReduction (F := Ideal) .add [0] S512 (addf (φ := .f32) (shapeCast S32x512 A shapeCasts_S32x512_S32x512)
    (shapeCast S32x512 B shapeCasts_S32x512_S32x512)) 0x00000000#32 reduces_S32x512_S512 (.inl rfl) rfl) shapeCasts_S512_S1x512

theorem sumLine_eq (a b : Fin 19) : sumLine A B (ix2 0 (col a b)) = sumsOf A B a b := by
  pointwise [sumLine, sumsOf]

/-- One slice of the line holds the cells of its line of the table. -/
theorem slice_at (a b : Fin 19) (k o : ℕ) (h : S1x512.Slices ![0, o] S1x19) (ho : o = 19 * k) :
    PieceAt (t := S19x19) 0 (ix2 a b) (sumsOf A B a b) S1x19 (extractStridedSlice S1x19 ![0, o] (sumLine A B) h) k := by
  intro hk hr i h0 hi
  rw [← sumLine_eq A B a b]
  have hk' : a.val = k := hk
  have h1 : (i 1).val = b.val := hi 1 (by decide)
  have h0' : (i 0).val = 0 := h0
  unfold extractStridedSlice
  refine congrArg (sumLine A B) (funext fun c => Fin.ext ?_)
  match c with
  | ⟨0, _⟩ => show 0 + (i 0).val = 0; omega
  | ⟨1, _⟩ => show o + (i 1).val = 19 * a.val + b.val; omega

/-- The table that the last call lays its counts out as. -/
theorem pay4_eq (a b : Fin 19) : k4_pay4 (F := Ideal) A B (ix2 a b) = sumsOf A B a b := by
  unfold k4_pay4
  refine concatenate_unit_eq 0 _ _ (ix2 a b) _ rfl ?_
  repeat refine concatAt_cons _ _ _ _ (slice_at A B a b _ _ _ rfl) ?_
  exact trivial

/-- The classes as words are told apart. -/
theorem word_inj (a x : Fin 19) : (BitVec.ofNat 32 a.val = BitVec.ofNat 32 x.val) ↔ a.val = x.val := by
  constructor
  · intro h
    have h := congrArg BitVec.toNat h
    simp only [BitVec.toNat_ofNat] at h
    omega
  · intro h; rw [h]

/-- The identity matrix's entry that the last call reads. -/
theorem eye_at (a x : Fin 19) : FloatOps.sitofp (F := Ideal) .f32
    (BitVec.setWidth 32 (IntOp.cmpi .eq (BitVec.ofNat 32 a.val) (BitVec.ofNat 32 x.val))) = (if a.val = x.val then 1 else 0 : EReal) := by
  have h := word_inj a x
  by_cases hx : a.val = x.val
  · rw [if_pos hx, hx]
    show (((BitVec.setWidth 32 (BitVec.ofBool (BitVec.ofNat 32 x.val == BitVec.ofNat 32 x.val))).toInt : ℝ) : EReal) = 1
    simp
  · rw [if_neg hx]
    show (((BitVec.setWidth 32 (BitVec.ofBool (BitVec.ofNat 32 a.val == BitVec.ofNat 32 x.val))).toInt : ℝ) : EReal) = 0
    rw [beq_false_of_ne fun e => hx (h.mp e)]
    simp

/-- The last call's diagonal. -/
theorem pay5_eq (a : Fin 19) : k4_pay5 (F := Ideal) A B (ix2 a 0) = sumsOf A B a a := by
  pointwise [k4_pay5]
  simp only [pay4_eq]
  rw [Finset.sum_eq_single a]
  · rw [eye_at, if_pos rfl, mul_one]
  · intro x _ hx
    rw [eye_at, if_neg fun h => hx (Fin.ext h).symm, mul_zero]
  · intro h; exact absurd (Finset.mem_univ a) h

/-- The last call's line sums. -/
theorem pay6_eq (a : Fin 19) : k4_pay6 (F := Ideal) A B (ix2 a 0) = rowSum (sumsOf A B) a := by
  pointwise [k4_pay6]
  simp only [pay4_eq]
  rfl

/-- The last call's unions. -/
theorem pay7_eq (a : Fin 19) : k4_pay7 (F := Ideal) A B (ix2 a 0) = union (sumsOf A B) a := by
  pointwise [k4_pay7]
  simp only [pay4_eq, pay5_eq, pay6_eq]
  rfl

/-- The last call's test of a union. -/
theorem pay8_eq (a : Fin 19) (x y : EReal) :
    Scalar.select (k4_pay8 (F := Ideal) A B (ix2 a 0)) x y = if 0 < union (sumsOf A B) a then x else y := by
  pointwise [k4_pay8]
  simp only [pay7_eq]

/-- The last call's quotients. -/
theorem pay9_eq (a : Fin 19) : k4_pay9 (F := Ideal) A B (ix2 a 0)
    = Ideal.div (sumsOf A B a a) (if 0 < union (sumsOf A B) a then union (sumsOf A B) a else 1) := by
  pointwise [k4_pay9]
  simp only [pay7_eq, pay5_eq]

/-- The last call's ratios. -/
theorem pay1_eq (a : Fin 19) : k4_pay1 (F := Ideal) (k4_pay8 (F := Ideal) A B) (k4_pay9 (F := Ideal) A B) (ix2 a 0) = ratio (sumsOf A B) a := by
  pointwise [k4_pay1]
  simp only [pay8_eq, pay9_eq]
  rfl

/-- The first score's payload. -/
theorem score1_eq : StatsBody.score1 (F := Ideal) A B (ix2 0 0) = meanScore (sumsOf A B) := by
  pointwise [StatsBody.score1, k4_pay2]
  simp only [pay1_eq]
  simp only [Fin.sum_univ_one]
  rfl

/-- The second score's payload. -/
theorem score2_eq : StatsBody.score2 (F := Ideal) A B (ix2 0 0) = weightedScore (sumsOf A B) := by
  pointwise [StatsBody.score2, k4_pay3]
  simp only [pay1_eq, pay6_eq]
  simp only [Fin.sum_univ_one]
  rfl

end Cert.Proof.Scores
-- ==== Proof.RefScores.lean ====
module

public import proofs.«01_k».proof.Proof.RefRun
public import proofs.«01_k».proof.Proof.Scores

/-! The reference's two results over the extended reals are the scores of its table. -/

@[expose] public section

noncomputable section

namespace Cert.Proof.RefScores

open Cert.ReferenceIdeal Cert.ReferenceIdeal.Gen Idealize.ShloMosaic
open Cert.Proof.RefRun Cert.Proof.Scores

/-- The table by its line and its column. -/
def cells (t : S19x19.Idx → EReal) : Scores.Table := fun a b => t (ix2 a b)

variable (t : S19x19.Idx → EReal)

theorem inter_eq (a : Fin 19) : inter (F := Ideal) t (ix1 a) = t (ix2 a a) := by
  pointwise [inter, id_eq]
  have hs : ∀ x : Fin 19, Scalar.select (IntOp.cmpi .eq (IntOp.addi (BitVec.ofNat 32 a.val) 0#32) (BitVec.ofNat 32 x.val))
      (t (ix2 a x)) (0 : EReal) = if a.val = x.val then t (ix2 a x) else 0 := fun x => by
    unfold Scalar.select IntOp.cmpi IntOp.addi
    simp only [BitVec.add_zero]
    by_cases hx : a.val = x.val
    · simp [hx]
    · rw [if_neg hx, beq_false_of_ne fun e => hx ((word_inj a x).mp e)]
      simp
  simp only [hs]
  rw [Finset.sum_eq_single a]
  · rw [if_pos rfl]
  · intro x _ hx
    rw [if_neg fun h => hx (Fin.ext h).symm]
  · intro h; exact absurd (Finset.mem_univ a) h

theorem sides_eq (a : Fin 19) : sides (F := Ideal) t (ix1 a) = rowSum (cells t) a + colSum (cells t) a := by
  pointwise [sides]
  rfl

theorem iouOf_eq (a : Fin 19) : iouOf (F := Ideal) t (ix1 a) = ratio (cells t) a := by
  pointwise [iouOf, iou, zeros, id_eq]
  simp only [inter_eq, sides_eq]
  rfl

theorem mean_eq : mean (F := Ideal) (iouOf (F := Ideal) t) = fun _ => meanScore (cells t) := by
  funext j
  pointwise [mean]
  simp only [iouOf_eq]
  rfl

theorem total_eq (j : S_.Idx) : total (F := Ideal) t j = whole (cells t) := by
  pointwise [total, id_eq]
  rfl

theorem freq_eq (a : Fin 19) : freq (F := Ideal) t (ix1 a) = share (cells t) a := by
  pointwise [freq]
  simp only [total_eq]
  rfl

theorem weighted_eq : weighted (F := Ideal) t (iouOf (F := Ideal) t) = fun _ => weightedScore (cells t) := by
  funext j
  pointwise [weighted, zeros, id_eq]
  simp only [iouOf_eq, freq_eq]
  rfl

end Cert.Proof.RefScores
-- ==== Proof.Count.lean ====
module

public import proofs.«01_k».proof.Proof.Labels
public import proofs.«01_k».proof.Proof.Scores

/-! The counts of the labels, over the extended reals: each cell's count is the number of the pixels of the cell. -/

@[expose] public section

noncomputable section

namespace Cert.Proof.Count

open Cert.KernelIdeal Cert.KernelIdeal.Gen Idealize.ShloMosaic
open Cert.Proof.Hist Cert.Proof.Pieces Cert.Proof.Calls Cert.Proof.Labels Cert.Proof.Scores

/-- How many of the first `N` numbers `f` takes to `q`. -/
def tally (f : ℕ → ℕ) (q N : ℕ) : EReal := ∑ n ∈ Finset.range N, if f n = q then 1 else 0

/-- A tally of consecutive blocks is the tally of them all. -/
theorem tally_blocks (f : ℕ → ℕ) (q N : ℕ) : ∀ W, ∑ w ∈ Finset.range W, tally (fun n => f (N * w + n)) q N = tally f q (N * W)
  | 0 => by simp [tally]
  | W + 1 => by
    rw [Finset.sum_range_succ, tally_blocks f q N W, Nat.mul_succ]
    unfold tally
    rw [Finset.sum_range_add]

theorem one_eq : (oneF : Ideal .f32) = 1 := by
  pointwise [oneF]

theorem zero_eq : (zeroF : Ideal .f32) = 0 := by
  pointwise [zeroF]

/-- A bin of the table counts the pixels of its label. -/
theorem hist_eq (lab : S64x512.Idx → BitVec 32) (p : S8224.Idx) : ∀ N,
    hist (F := Ideal) lab N p = tally (fun n => (labN lab n).toNat) (p 0).val N
  | 0 => by rw [hist, zero_eq]; simp [tally]
  | N + 1 => by
    rw [hist]
    beta_reduce
    rw [hist_eq lab p N, one_eq]
    unfold tally
    rw [Finset.sum_range_succ]
    by_cases h : (p 0).val = (labN lab N).toNat
    · rw [if_pos h, if_pos h.symm]; rfl
    · rw [if_neg h, if_neg fun e => h e.symm, add_zero]

/-- The sixteen bins of a cell, summed. -/
theorem binSum_eq (X : S8224.Idx → Ideal .f32) (p : ℕ) : ∀ l,
    binSum (F := Ideal) X p l = ∑ i ∈ Finset.range (l + 1), (X (binAt (p + 513 * i)) : EReal)
  | 0 => by rw [Finset.sum_range_one]; rfl
  | l + 1 => by
    rw [Finset.sum_range_succ, ← binSum_eq X p l]; rfl

/-- A cell below 513 is told by exactly one of its sixteen bins, the bin of the pixel's column. -/
theorem one_bin {q g c : ℕ} (hq : q < 513) (hg : g < 513) :
    (∑ i ∈ Finset.range (15 + 1), if g + c % 16 * 513 = (q + 513 * i) % 8224 then (1 : EReal) else 0) = if g = q then 1 else 0 := by
  have hc : c % 16 < 16 := Nat.mod_lt _ (by decide)
  rw [Finset.sum_eq_single (c % 16)]
  · congr 1
    apply propext
    omega
  · intro i hi hne
    have hi := Finset.mem_range.mp hi
    rw [if_neg]
    rw [Nat.mod_eq_of_lt (show q + 513 * i < 8224 by omega)]
    generalize c % 16 = d at *
    rcases Nat.lt_or_gt_of_ne hne with h | h <;> omega
  · intro h
    exact absurd (Finset.mem_range.mpr hc) h

variable (x : S8x19x512x512.Idx → Ideal .f32) (mk : S8x512x512.Idx → BitVec 32)

/-- The cell of pixel `P`, the pixels counted image by image and row by row. -/
def cellAt (P : ℕ) : ℕ :=
  (mk (atMask (P / 262144 % 8) (P / 512 % 512) (P % 512) (Nat.mod_lt _ (by decide)) (Nat.mod_lt _ (by decide)) (Nat.mod_lt _ (by decide)))).toNat * 19
    + (LabelBody.scan (F := Ideal) (fun n => x (atLogit (P / 262144 % 8) n (P / 512 % 512) (P % 512)
      (Nat.mod_lt _ (by decide)) (Nat.mod_lt _ (by decide)) (Nat.mod_lt _ (by decide)))) 18).toNat

variable {x mk}

theorem cellAt_lt (h : InRange mk) (P : ℕ) : cellAt x mk P < 361 := by
  unfold cellAt
  have h1 := h (atMask (P / 262144 % 8) (P / 512 % 512) (P % 512) (Nat.mod_lt _ (by decide)) (Nat.mod_lt _ (by decide)) (Nat.mod_lt _ (by decide)))
  have h2 := scan_le (F := Ideal) (fun n => x (atLogit (P / 262144 % 8) n (P / 512 % 512) (P % 512)
      (Nat.mod_lt _ (by decide)) (Nat.mod_lt _ (by decide)) (Nat.mod_lt _ (by decide)))) 18 (by decide)
  omega

theorem pixelLabel_congr {i r c i' r' c' : ℕ} {hi : i < 8} {hr : r < 512} {hc : c < 512} {hi' : i' < 8} {hr' : r' < 512} {hc' : c' < 512}
    (e1 : i = i') (e2 : r = r') (e3 : c = c') : pixelLabel x mk i r c hi hr hc = pixelLabel x mk i' r' c' hi' hr' hc' := by
  subst e1 e2 e3; rfl

/-- The label of a pixel of a tile's slab. -/
theorem slab_label (h : InRange mk) (k : Fin 2) (w n : ℕ) (hw : w < 32) (hn : n < 32768) :
    (labN (slabOf (labels4 k x mk) w hw) n).toNat = cellAt x mk (1048576 * k.val + (32768 * w + n)) + n % 16 * 513 := by
  have hk := k.isLt
  obtain ⟨P, hP⟩ : ∃ P, P = 1048576 * k.val + (32768 * w + n) := ⟨_, rfl⟩
  rw [← hP]
  have e : labN (slabOf (labels4 k x mk) w hw) n = pixelLabel x mk (P / 262144 % 8) (P / 512 % 512) (P % 512)
      (Nat.mod_lt _ (by decide)) (Nat.mod_lt _ (by decide)) (Nat.mod_lt _ (by decide)) := by
    refine pixelLabel_congr ?_ ?_ ?_
    · show w / 8 + 4 * k.val = _
      omega
    · show 64 * (w % 8) + n / 512 % 64 = _
      omega
    · show n % 512 = _
      omega
  rw [e]
  unfold pixelLabel
  rw [label_toNat _ (h _), BitVec.toNat_ofNat]
  unfold cellAt
  omega

/-- A tile's count of a cell. -/
theorem counts_eq (h : InRange mk) (k : Fin 2) (w : Fin 32) (q : Fin 512) :
    counts (F := Ideal) (labels4 k x mk) (ix2 w q) = tally (fun n => cellAt x mk (1048576 * k.val + (32768 * w.val + n))) q.val 32768 := by
  unfold counts reduced
  rw [binSum_eq]
  show (∑ i ∈ Finset.range (15 + 1), hist (F := Ideal) (slabOf (labels4 k x mk) w.val w.isLt) 32768 (binAt (q.val + 513 * i))) = _
  simp only [hist_eq]
  unfold tally
  rw [Finset.sum_comm]
  refine Finset.sum_congr rfl fun n hn => ?_
  rw [← one_bin (c := n) (show q.val < 513 by omega) (show cellAt x mk (1048576 * k.val + (32768 * w.val + n)) < 513 from
    Nat.lt_trans (cellAt_lt h _) (by decide))]
  refine Finset.sum_congr rfl fun i _ => ?_
  beta_reduce
  rw [slab_label h k w.val n w.isLt (Finset.mem_range.mp hn)]
  rfl

/-- The kernel's table: a cell's count over all the pixels. -/
theorem sums_eq (h : InRange mk) (a b : Fin 19) :
    sumsOf (counts (F := Ideal) (labels4 0 x mk)) (counts (F := Ideal) (labels4 1 x mk)) a b
      = tally (cellAt x mk) (19 * a.val + b.val) 2097152 := by
  unfold sumsOf
  simp only [counts_eq h]
  rw [Finset.sum_add_distrib]
  have hb : ∀ s : ℕ, ∑ w : Fin 32, tally (fun n => cellAt x mk (s + (32768 * w.val + n))) (col a b).val 32768
      = tally (fun n => cellAt x mk (s + n)) (19 * a.val + b.val) 1048576 := fun s => by
    rw [Fin.sum_univ_eq_sum_range (fun w => tally (fun n => cellAt x mk (s + (32768 * w + n))) (col a b).val 32768)]
    exact tally_blocks (fun n => cellAt x mk (s + n)) _ 32768 32
  rw [hb, hb]
  have := tally_blocks (cellAt x mk) (19 * a.val + b.val) 1048576 2
  rw [Finset.sum_range_succ, Finset.sum_range_one] at this
  exact this

end Cert.Proof.Count
-- ==== Proof.RefCell.lean ====
module

public import proofs.«01_k».proof.Proof.RefScores
public import proofs.«01_k».proof.Proof.Count

/-! The cell that the reference counts a pixel in. -/

@[expose] public section

noncomputable section

namespace Cert.Proof.RefCell

open Idealize.ShloMosaic.WordCmp
open Cert.ReferenceIdeal Cert.ReferenceIdeal.Gen Idealize.ShloMosaic
open Cert.Proof.RefRun Cert.Proof.RefScores Cert.Proof.Count Cert.Proof.Labels Cert.Proof.Scores

/-- Where pixel `P` lies, the pixels counted image by image and row by row. -/
def pixel (P : ℕ) : S8x512x512.Idx :=
  ix3 ⟨P / 262144 % 8, Nat.mod_lt _ (by decide)⟩ ⟨P / 512 % 512, Nat.mod_lt _ (by decide)⟩ ⟨P % 512, Nat.mod_lt _ (by decide)⟩

variable {mk pk : S8x512x512.Idx → BitVec 32}

/-- Every pixel of a mask in range is valid. -/
theorem valid_eq (h : InRange mk) (j : S8x512x512.Idx) : valid mk j = 1#1 := by
  have hj := h j
  pointwise [valid]
  rw [cmpi_sge_zero, cmpi_slt_of_lt (by omega) (by decide), decide_eq_true (show (mk j).toNat < 2 ^ 31 by omega),
    decide_eq_true (show (mk j).toNat < (19#32).toNat from hj)]
  rfl

/-- A pixel's cell as a number. -/
theorem cell_eq (h : InRange mk) (hp : ∀ j, (pk j).toNat < 19) (j : S8x512x512.Idx) :
    (cell mk pk j).toNat = (mk j).toNat * 19 + (pk j).toNat := by
  have hj := h j
  have hpj := hp j
  pointwise [cell]
  rw [valid_eq h]
  show ((19#32 * mk j) + pk j).toNat = _
  rw [BitVec.toNat_add, BitVec.toNat_mul]
  show (19 * (mk j).toNat % 2 ^ 32 + (pk j).toNat) % 2 ^ 32 = _
  omega

/-- A pixel's cell, as the scatter reads it. -/
theorem spots_eq (h : InRange mk) (hp : ∀ j, (pk j).toNat < 19) (P : Fin 2097152) :
    spots (line (cell mk pk)) (ix2 P 0) = cell mk pk (pixel P.val) := by
  have hc := cell_eq h hp (pixel P.val)
  have hj := h (pixel P.val)
  have hpj := hp (pixel P.val)
  pointwise [spots, line, id_eq]
  have hm : P.val / 262144 % 8 = P.val / 262144 := Nat.mod_eq_of_lt (by omega)
  rw [show (ix3 ⟨P.val / 262144, _⟩ ⟨P.val / 512 % 512, _⟩ ⟨P.val % 512, _⟩ : S8x512x512.Idx) = pixel P.val from
    congrArg (fun i => ix3 i _ _) (Fin.ext hm.symm)]
  generalize cell mk pk (pixel P.val) = c at hc ⊢
  have hlt : c.toNat < 2 ^ 31 := by omega
  have hn : ¬ c.slt 0#32 := by
    rw [BitVec.slt_iff_toInt_lt, toInt_eq_toNat_of_lt_half (w := 32) hlt]
    simp
  have hx : IntOp.maxsi (0#32) c = c := by
    unfold IntOp.maxsi
    by_cases h0 : c.slt 0#32
    · exact absurd h0 hn
    · rw [if_neg h0]
  rw [hx]
  unfold Scalar.select IntOp.cmpi
  simp [hn]

end Cert.Proof.RefCell
-- ==== Proof.Adds.lean ====
module

public import Idealize.ShloMosaic.Lib.Pointwise
public import Idealize.ShloMosaic.Lib.Routing.OpsPair

/-! Where a scatter of numbers into a line adds them. -/

@[expose] public section

noncomputable section

namespace Cert.Proof.Adds

open Idealize.ShloMosaic

/-- A scatter of `M` numbers into a line of `N`, one word to a number, adds number `i` at the place its word names. -/
theorem adds_at {N M : ℕ} (d : ScatterDims ⟨1, ![N]⟩ ⟨2, ![M, 1]⟩ ⟨1, ![M]⟩) (hw : d.insertedWindowDims = [0])
    (hs : d.scatterDimsToOperandDims = [0]) (hv : d.indexVectorDim = 1) (idx : IVec ⟨2, ![M, 1]⟩ 32) (i : Fin M) (p : Fin N) :
    d.resultIdx? (ix1 i) idx = some (ix1 p) ↔ (idx (ix2 i (0 : Fin 1))).toInt = (p.val : Int) := by
  have hin : (0 : Fin 1) ∈ d.scatterDimsToOperandDims := hs ▸ List.mem_singleton_self _
  have hwin : d.window (ix1 i) 0 = 0 := by
    unfold ScatterDims.window
    refine dif_neg fun h => ?_
    have h := (List.mem_filter.mp h).2
    rw [hw] at h
    exact of_decide_eq_true h (List.mem_singleton_self _)
  have hidx : d.siIdx (ix1 i) ⟨d.scatterDimsToOperandDims.idxOf 0, List.idxOf_lt_length_iff.2 hin⟩ = ix2 i (0 : Fin 1) := by
    funext b
    refine Fin.ext ?_
    unfold ScatterDims.siIdx
    rcases b with ⟨b, hb⟩
    have hb : b < 2 := hb
    by_cases h1 : b = 1
    · subst h1
      rw [dif_pos hv.symm]
      exact (congrArg (List.idxOf (0 : Fin 1)) hs).trans (show List.idxOf (0 : Fin 1) [0] = 0 by decide)
    · obtain rfl : b = 0 := by omega
      rw [dif_neg (by rw [hv]; exact h1)]
      unfold ScatterDims.siCoord
      have hall : ∀ X : Fin 1, (ix1 i X).val = i.val := fun X => by rw [Subsingleton.elim X 0]; rfl
      exact hall _
  refine (Routing.resultIdx?_ix1 d (ix1 i) idx p).trans ?_
  rw [hwin]
  unfold ScatterDims.start
  rw [dif_pos hin, hidx]
  omega

end Cert.Proof.Adds
-- ==== Proof.RefTable.lean ====
module

public import proofs.«01_k».proof.Proof.RefCell
public import proofs.«01_k».proof.Proof.Adds

/-! The reference's table over the extended reals: each cell holds the number of the pixels of the cell. -/

@[expose] public section

noncomputable section

namespace Cert.Proof.RefTable

open Cert.ReferenceIdeal Cert.ReferenceIdeal.Gen Idealize.ShloMosaic
open Cert.Proof.Adds Cert.Proof.RefRun Cert.Proof.RefScores Cert.Proof.RefCell Cert.Proof.Count Cert.Proof.Labels Cert.Proof.Scores

variable {mk pk : S8x512x512.Idx → BitVec 32}

theorem as_square (v : S361.Idx → EReal) (a b : Fin 19) :
    shapeCast S19x19 v shapeCasts_S361_S19x19 (ix2 a b) = v (ix1 ⟨19 * a.val + b.val, by omega⟩) := by
  pointwise
  refine congrArg v (congrArg ix1 (Fin.ext ?_))
  show a.val * 19 + b.val = 19 * a.val + b.val
  omega

/-- Every pixel counts one. -/
theorem weight_eq (h : InRange mk) (P : Fin 2097152) :
    shapeCast S2097152 (uitofp (F := Ideal) .f32 (valid mk)) shapeCasts_S8x512x512_S2097152 (ix1 P) = (1 : EReal) := by
  pointwise
  rw [valid_eq h]
  show (((1#1 : BitVec 1).toNat : ℝ) : EReal) = 1
  simp

/-- The reference's table. -/
theorem table_eq (h : InRange mk) (hp : ∀ j, (pk j).toNat < 19) (a b : Fin 19) :
    cells (table (F := Ideal) (valid mk) (cell mk pk)) a b
      = tally (fun P => (mk (pixel P)).toNat * 19 + (pk (pixel P)).toNat) (19 * a.val + b.val) 2097152 := by
  refine (as_square _ a b).trans ?_
  show (Ideal.ofBits .f32 0x00000000#32 : EReal) + ∑ j ∈ Finset.univ.filter (fun j =>
    scatter_S361_S2097152x1_S2097152_n_0_0_1.resultIdx? j (spots (line (cell mk pk))) = some (ix1 ⟨19 * a.val + b.val, _⟩)),
      shapeCast S2097152 (uitofp (F := Ideal) .f32 (valid mk)) shapeCasts_S8x512x512_S2097152 j = _
  rw [Ideal.ofBits_zero_f32, zero_add, Finset.sum_filter]
  refine (sum_idx1 _).trans ?_
  unfold tally
  rw [← Fin.sum_univ_eq_sum_range (fun P => if (mk (pixel P)).toNat * 19 + (pk (pixel P)).toNat = 19 * a.val + b.val then (1 : EReal) else 0)]
  refine Finset.sum_congr rfl fun P _ => ?_
  rw [weight_eq h]
  have hc := cell_eq h hp (pixel P.val)
  have hj := h (pixel P.val)
  have hpj := hp (pixel P.val)
  refine if_congr ?_ rfl rfl
  refine (adds_at scatter_S361_S2097152x1_S2097152_n_0_0_1 rfl rfl rfl (spots (line (cell mk pk))) P _).trans ?_
  rw [spots_eq h hp, WordCmp.toInt_eq_toNat_of_lt_half (w := 32) (by rw [hc]; show _ < 2 ^ 31; omega), hc]
  exact Int.ofNat_inj

end Cert.Proof.RefTable
-- ==== Proof.Softmax.lean ====
module

public import proofs.«01_k».proof.Proof.RefRun
public import Idealize.ShloMosaic.Lib.Pointwise

/-! The softmax over the extended reals keeps the order of a pixel's real logits. -/

@[expose] public section

noncomputable section

namespace Cert.Proof.Softmax

open Cert.ReferenceIdeal Cert.ReferenceIdeal.Gen Idealize.ShloMosaic
open Cert.Proof.RefRun

variable (x y : S8x19x512x512.Idx → EReal) (i : Fin 8) (r c : Fin 512)

theorem spread_eq (v : S8x512x512.Idx → EReal) (n : Fin 19) :
    broadcastInDim S8x19x512x512 ![0, 1, 2, 3] bcast_S8x1x512x512_S8x19x512x512_0_1_2_3
      (broadcastInDim S8x1x512x512 ![0, 2, 3] bcast_S8x512x512_S8x1x512x512_0_2_3 v) (ix4 i n r c) = v (ix3 i r c) := by
  pointwise

theorem sum_eq :
    Host.reduceAdd (F := Ideal) (φ := .f32) y (constant S_ .f32 0x00000000#32) reducesTo_S8x19x512x512_S8x512x512_d1 h_S_ (ix3 i r c)
      = ∑ k : Fin 19, y (ix4 i k r c) := by
  pointwise

/-- A maximum over the second of four axes, at an index. -/
theorem max_at {n0 n1 n2 n3 : ℕ} {t u : Shape} (h : (⟨4, ![n0, n1, n2, n3]⟩ : Shape).ReducesTo [1] t) (hu : 0 < u.numel)
    (v : (⟨4, ![n0, n1, n2, n3]⟩ : Shape).Idx → EReal) (e : u.Idx → EReal) (j : t.Idx) :
    Host.reduce (FloatOps.maximumf (F := Ideal) (φ := .f32)) v e h hu j
      = Finset.univ.fold max (e (Shape.Idx.first hu)) (fun k => v (ix4
        ⟨(j ⟨0, h.lt_r4_a1_0⟩).val, Shape.coordLt (j ⟨0, h.lt_r4_a1_0⟩) h.size_r4_a1_0⟩ k
        ⟨(j ⟨1, h.lt_r4_a1_1⟩).val, Shape.coordLt (j ⟨1, h.lt_r4_a1_1⟩) h.size_r4_a1_1⟩
        ⟨(j ⟨2, h.lt_r4_a1_2⟩).val, Shape.coordLt (j ⟨2, h.lt_r4_a1_2⟩) h.size_r4_a1_2⟩)) := by
  show Host.reduce (max : EReal → EReal → EReal) v e h hu j = _
  rw [Host.reduce_eq_fold]
  exact h.fold_fiber_r4_a1 j max _ v

/-- Minus infinity. -/
def low : EReal := constant (F := Ideal) S_ .f32 0xFF800000#32 ix0

theorem low_eq : low = ⊥ := by
  show Ideal.ofBits .f32 0xFF800000#32 = ⊥
  simp [Ideal.ofBits, Ideal.ieee]

/-- The greatest of a pixel's logits. -/
def top : EReal := max low (Finset.univ.fold max low fun k : Fin 19 => x (ix4 i k r c))

theorem top_at (b e : S_.Idx → EReal) :
    maximumf (F := Ideal) (φ := .f32) (broadcastInDim S8x512x512 ![] bcast_S_S8x512x512 b)
      (Host.reduce (FloatOps.maximumf (F := Ideal) (φ := .f32)) x e reducesTo_S8x19x512x512_S8x512x512_d1 h_S_) (ix3 i r c)
      = max (b ix0) (Finset.univ.fold max (e ix0) fun k : Fin 19 => x (ix4 i k r c)) := by
  have hb : broadcastInDim S8x512x512 ![] bcast_S_S8x512x512 b (ix3 i r c) = b ix0 := congrArg b (funext fun a => a.elim0)
  have he : e (Shape.Idx.first h_S_) = e ix0 := congrArg e (funext fun a => a.elim0)
  have hm := max_at reducesTo_S8x19x512x512_S8x512x512_d1 h_S_ x e (ix3 i r c)
  rw [he] at hm
  exact congrArg₂ (max : EReal → EReal → EReal) hb hm

theorem top_eq : maximumf (F := Ideal) (φ := .f32) (broadcastInDim S8x512x512 ![] bcast_S_S8x512x512 (constant S_ .f32 0xFF800000#32))
    (Host.reduce (FloatOps.maximumf (F := Ideal) (φ := .f32)) x (constant S_ .f32 0xFF800000#32) reducesTo_S8x19x512x512_S8x512x512_d1 h_S_) (ix3 i r c)
      = top x i r c := by
  exact top_at x i r c _ _

theorem expo_eq (n : Fin 19) : expo (F := Ideal) x (ix4 i n r c) = Ideal.exp (x (ix4 i n r c) - top x i r c) := by
  rw [← top_eq x i r c]
  exact congrArg (fun e : EReal => Ideal.exp (x (ix4 i n r c) - e)) (spread_eq i r c _ n)

theorem prob_eq (n : Fin 19) : prob (F := Ideal) x (ix4 i n r c)
    = Ideal.div (expo (F := Ideal) x (ix4 i n r c)) (∑ k : Fin 19, expo (F := Ideal) x (ix4 i k r c)) := by
  rw [← sum_eq (expo (F := Ideal) x) i r c]
  exact congrArg (fun e : EReal => Ideal.div (expo (F := Ideal) x (ix4 i n r c)) e) (spread_eq i r c _ n)

/-- The greatest of real logits is real. -/
theorem top_real (h : ∀ j, x j ≠ ⊤ ∧ x j ≠ ⊥) : ∃ m : ℝ, top x i r c = (m : EReal) := by
  have h1 : top x i r c < ⊤ := by
    unfold top
    rw [low_eq, max_lt_iff]
    exact ⟨bot_lt_top, Finset.fold_max_lt _ |>.mpr ⟨bot_lt_top, fun k _ => lt_top_iff_ne_top.mpr (h _).1⟩⟩
  have h2 : ⊥ < top x i r c := by
    unfold top
    rw [lt_max_iff]
    exact Or.inr (Finset.lt_fold_max _ |>.mpr (Or.inr ⟨0, Finset.mem_univ _, bot_lt_iff_ne_bot.mpr (h _).2⟩))
  exact ⟨(top x i r c).toReal, (EReal.coe_toReal h1.ne h2.ne').symm⟩

/-- Of real logits the exponentials are real and positive. -/
theorem expo_real (h : ∀ j, x j ≠ ⊤ ∧ x j ≠ ⊥) : ∃ m : ℝ, ∀ n, expo (F := Ideal) x (ix4 i n r c)
    = ((Real.exp ((x (ix4 i n r c)).toReal - m) : ℝ) : EReal) := by
  obtain ⟨m, hm⟩ := top_real x i r c h
  refine ⟨m, fun n => ?_⟩
  rw [expo_eq, hm]
  conv_lhs => rw [← EReal.coe_toReal (h (ix4 i n r c)).1 (h (ix4 i n r c)).2, ← EReal.coe_sub]
  rfl

/-- A pixel's probabilities are real, and ordered as its real logits. -/
theorem prob_order (h : ∀ j, x j ≠ ⊤ ∧ x j ≠ ⊥) : ∃ p : Fin 19 → ℝ, (∀ n, prob (F := Ideal) x (ix4 i n r c) = (p n : EReal)) ∧
    ∀ a b, p a ≤ p b ↔ x (ix4 i a r c) ≤ x (ix4 i b r c) := by
  obtain ⟨m, hm⟩ := expo_real x i r c h
  have hs : 0 < ∑ k : Fin 19, Real.exp ((x (ix4 i k r c)).toReal - m) :=
    Finset.sum_pos (fun k _ => Real.exp_pos _) Finset.univ_nonempty
  refine ⟨fun n => Real.exp ((x (ix4 i n r c)).toReal - m) * (∑ k : Fin 19, Real.exp ((x (ix4 i k r c)).toReal - m))⁻¹,
    fun n => ?_, fun a b => ?_⟩
  · rw [prob_eq]
    simp only [hm]
    rw [show (∑ k : Fin 19, ((Real.exp ((x (ix4 i k r c)).toReal - m) : ℝ) : EReal))
      = ((∑ k : Fin 19, Real.exp ((x (ix4 i k r c)).toReal - m) : ℝ) : EReal) from
        (map_sum (⟨⟨Real.toEReal, EReal.coe_zero⟩, EReal.coe_add⟩ : ℝ →+ EReal) _ _).symm]
    unfold Ideal.div
    rw [if_neg (by rw [EReal.coe_eq_zero]; exact hs.ne'), ← EReal.coe_inv, ← EReal.coe_mul]
  · rw [mul_le_mul_iff_left₀ (inv_pos.mpr hs), Real.exp_le_exp, sub_le_sub_iff_right]
    rw [← EReal.coe_le_coe_iff, EReal.coe_toReal (h _).1 (h _).2, EReal.coe_toReal (h _).1 (h _).2]

end Cert.Proof.Softmax
-- ==== Proof.Pick.lean ====
module

public import proofs.«01_k».proof.Proof.Softmax
public import proofs.«01_k».proof.Proof.Count

/-! The class picked from the softmax is the class that the labels' scan finds. -/

@[expose] public section

noncomputable section

namespace Cert.Proof.Pick

open Cert.ReferenceIdeal Cert.ReferenceIdeal.Gen Idealize.ShloMosaic
open Cert.Proof.RefRun Cert.Proof.Softmax

/-- Class `n` is the first of the greatest of the values on `S`. -/
def First (S : ℕ → Prop) (v : ℕ → EReal) (n : ℕ) : Prop := S n ∧ ∀ k, S k → v k ≤ v n ∧ (v k = v n → n ≤ k)

theorem First.unique {S : ℕ → Prop} {v : ℕ → EReal} {a b : ℕ} (ha : First S v a) (hb : First S v b) : a = b := by
  have e : v a = v b := le_antisymm (hb.2 a ha.1).1 (ha.2 b hb.1).1
  exact Nat.le_antisymm ((ha.2 b hb.1).2 e.symm) ((hb.2 a ha.1).2 e)

/-- The scan finds the first greatest. -/
theorem scan_first (x : ℕ → Ideal .f32) : ∀ N, ∃ n, LabelBody.scan (F := Ideal) x N = BitVec.ofNat 32 n
    ∧ LabelBody.best (F := Ideal) x N = x n ∧ First (fun k => k ≤ N) x n
  | 0 => ⟨0, rfl, rfl, Nat.le_refl _, fun k hk => by
      obtain rfl : k = 0 := Nat.le_zero.mp hk
      exact ⟨le_refl _, fun _ => Nat.le_refl _⟩⟩
  | N + 1 => by
    obtain ⟨n, hs, hb, hn, hf⟩ := scan_first x N
    have hn : n ≤ N := hn
    rw [LabelBody.scan, LabelBody.best, hs, hb]
    by_cases h : x n < x (N + 1)
    · have hc : FloatOps.cmpf (F := Ideal) .ogt (x (N + 1)) (x n) = 1#1 := by
        show Ideal.cmp .ogt (x (N + 1)) (x n) = 1#1
        simp [Ideal.cmp, h]
      rw [hc]
      refine ⟨N + 1, rfl, rfl, Nat.le_refl _, fun k hk => ?_⟩
      rcases Nat.lt_or_ge N k with hk' | hk'
      · obtain rfl : k = N + 1 := Nat.le_antisymm hk hk'
        exact ⟨le_refl _, fun _ => Nat.le_refl _⟩
      · exact ⟨((hf k hk').1.trans_lt h).le, fun e => absurd e ((hf k hk').1.trans_lt h).ne⟩
    · have hc : FloatOps.cmpf (F := Ideal) .ogt (x (N + 1)) (x n) = 0#1 := by
        show Ideal.cmp .ogt (x (N + 1)) (x n) = 0#1
        simp [Ideal.cmp, h]
      rw [hc]
      refine ⟨n, rfl, rfl, Nat.le_succ_of_le hn, fun k hk => ?_⟩
      rcases Nat.lt_or_ge N k with hk' | hk'
      · obtain rfl : k = N + 1 := Nat.le_antisymm hk hk'
        exact ⟨not_lt.mp h, fun _ => Nat.le_succ_of_le hn⟩
      · exact hf k hk'

/-- A class with its value. -/
def pair (v : ℕ → EReal) (n : ℕ) : Ideal .f32 × BitVec 32 := (v n, BitVec.ofNat 32 n)

/-- One step of the reference's search: the pair that is greater, or the earlier of equals. -/
theorem step_eq (v : ℕ → EReal) (a b : ℕ) (ha : a < 19) (hb : b < 19) :
    reducer_argmax_f32_i32 (F := Ideal) (pair v a) (pair v b) = pair v (if v b < v a ∨ (v a = v b ∧ a < b) then a else b) := by
  have hw : IntOp.cmpi .slt (BitVec.ofNat 32 a) (BitVec.ofNat 32 b) = BitVec.ofBool (decide (a < b)) :=
    WordCmp.cmpi_slt_ofNat (w := 32) (show a < 2 ^ 31 by omega) (show b < 2 ^ 31 by omega)
  have h1 : FloatOps.cmpf (F := Ideal) (φ := .f32) .ogt (v a) (v b) = BitVec.ofBool (decide (v b < v a)) := rfl
  have h2 : FloatOps.cmpf (F := Ideal) (φ := .f32) .une (v a) (v a) = 0#1 := by
    show Ideal.cmp .une (v a) (v a) = 0#1
    simp [Ideal.cmp]
  have h3 : FloatOps.cmpf (F := Ideal) (φ := .f32) .oeq (v a) (v b) = BitVec.ofBool (decide (v a = v b)) := rfl
  unfold reducer_argmax_f32_i32 pair
  simp only [h1, h2, h3, hw]
  by_cases g1 : v b < v a
  · simp [g1, g1.ne', Scalar.select, IntOp.ori, IntOp.andi]
  · by_cases g2 : v a = v b
    · by_cases g3 : a < b
      · simp [g2, g3, Scalar.select, IntOp.ori, IntOp.andi]
      · simp [g2, g3, Scalar.select, IntOp.ori, IntOp.andi]
    · simp [g1, g2, Scalar.select, IntOp.ori, IntOp.andi]

/-- The search over a list of classes finds the first greatest. -/
theorem fold_first (v : ℕ → EReal) : ∀ (L : List ℕ) (a : ℕ), a < 19 → (∀ k ∈ L, k < 19) →
    ∃ n, (L.map (pair v)).foldl (reducer_argmax_f32_i32 (F := Ideal)) (pair v a) = pair v n ∧ First (fun k => k = a ∨ k ∈ L) v n
  | [], a, _, _ => ⟨a, rfl, Or.inl rfl, fun k hk => by
      rcases hk with rfl | hk
      · exact ⟨le_refl _, fun _ => Nat.le_refl _⟩
      · exact absurd hk List.not_mem_nil⟩
  | b :: L, a, ha, hL => by
    have hb : b < 19 := hL b List.mem_cons_self
    rw [List.map_cons, List.foldl_cons, step_eq v a b ha hb]
    by_cases g : v b < v a ∨ (v a = v b ∧ a < b)
    · rw [if_pos g]
      obtain ⟨n, hn, hS, hf⟩ := fold_first v L a ha fun k hk => hL k (List.mem_cons_of_mem _ hk)
      refine ⟨n, hn, hS.imp id (List.mem_cons_of_mem _), fun k hk => ?_⟩
      have hfa := hf a (Or.inl rfl)
      rcases hk with rfl | hk
      · exact hfa
      · rcases List.mem_cons.mp hk with rfl | hk
        · rcases g with g | ⟨g, g'⟩
          · exact ⟨(g.trans_le hfa.1).le, fun e => absurd e (g.trans_le hfa.1).ne⟩
          · rw [← g]
            exact ⟨hfa.1, fun e => (hfa.2 e).trans g'.le⟩
        · exact hf k (Or.inr hk)
    · rw [if_neg g]
      obtain ⟨n, hn, hS, hf⟩ := fold_first v L b hb fun k hk => hL k (List.mem_cons_of_mem _ hk)
      refine ⟨n, hn, Or.inr (List.mem_cons.mpr hS), fun k hk => ?_⟩
      have hfb := hf b (Or.inl rfl)
      rcases hk with rfl | hk
      · rcases lt_trichotomy (v b) (v k) with h | h | h
        · exact absurd (Or.inl h) g
        · rw [← h]
          refine ⟨hfb.1, fun e => (hfb.2 e).trans ?_⟩
          by_contra hlt
          exact g (Or.inr ⟨h.symm, by omega⟩)
        · exact ⟨(h.trans_le hfb.1).le, fun e => absurd e (h.trans_le hfb.1).ne⟩
      · exact hf k (List.mem_cons.mp hk)

section Fiber

variable {α β : Type} {n0 n1 n2 n3 : ℕ} {t : Shape} (h : (⟨4, ![n0, n1, n2, n3]⟩ : Shape).ReducesTo [1] t)

/-- An index's class. -/
def second (i : (⟨4, ![n0, n1, n2, n3]⟩ : Shape).Idx) : Fin n1 := i 1

/-- The index of class `k` over the place `j`. -/
def over (j : t.Idx) (k : Fin n1) : (⟨4, ![n0, n1, n2, n3]⟩ : Shape).Idx :=
  ix4 ⟨(j ⟨0, h.lt_r4_a1_0⟩).val, Shape.coordLt (j ⟨0, h.lt_r4_a1_0⟩) h.size_r4_a1_0⟩ k
    ⟨(j ⟨1, h.lt_r4_a1_1⟩).val, Shape.coordLt (j ⟨1, h.lt_r4_a1_1⟩) h.size_r4_a1_1⟩
    ⟨(j ⟨2, h.lt_r4_a1_2⟩).val, Shape.coordLt (j ⟨2, h.lt_r4_a1_2⟩) h.size_r4_a1_2⟩

theorem second_over (j : t.Idx) (k : Fin n1) : second (over h j k) = k := rfl

/-- The pairs that a search along the second of four axes looks at: every class, in some order. -/
theorem fiber_list (x : (⟨4, ![n0, n1, n2, n3]⟩ : Shape).Idx → α) (y : (⟨4, ![n0, n1, n2, n3]⟩ : Shape).Idx → β) (j : t.Idx) :
    ∃ L : List (Fin n1), (∀ k, k ∈ L) ∧ Host.argReduceFiber x y h j = L.map fun k => (x (over h j k), y (over h j k)) := by
  refine ⟨((List.finRange (⟨4, ![n0, n1, n2, n3]⟩ : Shape).numel).filter fun n =>
    h.drop ((⟨4, ![n0, n1, n2, n3]⟩ : Shape).rowMajor.symm n) = j).map fun n =>
      second ((⟨4, ![n0, n1, n2, n3]⟩ : Shape).rowMajor.symm n), fun k => ?_, ?_⟩
  · refine List.mem_map.mpr ⟨(⟨4, ![n0, n1, n2, n3]⟩ : Shape).rowMajor (over h j k), List.mem_filter.mpr
      ⟨List.mem_finRange _, decide_eq_true ?_⟩, ?_⟩
    · rw [Equiv.symm_apply_apply]
      exact (h.fiber_r4_a1 j _).mpr ⟨k, rfl⟩
    · rw [Equiv.symm_apply_apply]; rfl
  · unfold Host.argReduceFiber
    rw [List.map_map]
    refine List.map_congr_left fun n hn => ?_
    obtain ⟨k, hk⟩ := (h.fiber_r4_a1 j _).mp (of_decide_eq_true (List.mem_filter.mp hn).2)
    have hk : over h j k = (⟨4, ![n0, n1, n2, n3]⟩ : Shape).rowMajor.symm n := hk
    have h1 : second ((⟨4, ![n0, n1, n2, n3]⟩ : Shape).rowMajor.symm n) = k := by rw [← hk]; rfl
    rw [Function.comp, h1, hk]

end Fiber

/-- A search from minus infinity over every class, none of value minus infinity, picks the first greatest. -/
theorem search_first (v : ℕ → EReal) (hv : ∀ k, v k ≠ ⊥) (L : List (Fin 19)) (hL : ∀ k, k ∈ L) :
    ∃ n, ((L.map fun k => pair v k.val).foldl (reducer_argmax_f32_i32 (F := Ideal)) ((⊥ : EReal), 0#32)).2 = BitVec.ofNat 32 n
      ∧ First (fun k => k < 19) v n := by
  cases L with
  | nil => exact absurd (hL 0) List.not_mem_nil
  | cons b L =>
    rw [List.map_cons, List.foldl_cons]
    have h0 : reducer_argmax_f32_i32 (F := Ideal) ((⊥ : EReal), 0#32) (pair v b.val) = pair v b.val := by
      have h1 : FloatOps.cmpf (F := Ideal) (φ := .f32) .ogt (⊥ : EReal) (v b.val) = 0#1 := by
        show Ideal.cmp .ogt _ _ = 0#1
        simp [Ideal.cmp]
      have h2 : FloatOps.cmpf (F := Ideal) (φ := .f32) .une (⊥ : EReal) (⊥ : EReal) = 0#1 := by
        show Ideal.cmp .une _ _ = 0#1
        simp [Ideal.cmp]
      have h3 : FloatOps.cmpf (F := Ideal) (φ := .f32) .oeq (⊥ : EReal) (v b.val) = 0#1 := by
        show Ideal.cmp .oeq _ _ = 0#1
        simp [Ideal.cmp, (hv b.val).symm]
      unfold reducer_argmax_f32_i32 pair
      simp only [h1, h2, h3]
      simp [Scalar.select, IntOp.ori, IntOp.andi]
    rw [h0]
    obtain ⟨n, hn, hS, hf⟩ := fold_first v (L.map Fin.val) b.val b.isLt fun k hk => by
      obtain ⟨c, _, rfl⟩ := List.mem_map.mp hk
      exact c.isLt
    have hall : ∀ k, k < 19 → (k = b.val ∨ k ∈ L.map Fin.val) := fun k hk => by
      rcases List.mem_cons.mp (hL ⟨k, hk⟩) with e | e
      · exact Or.inl (congrArg Fin.val e)
      · exact Or.inr (List.mem_map.mpr ⟨_, e, rfl⟩)
    rw [List.map_map] at hn
    refine ⟨n, congrArg Prod.snd hn, ?_, fun k hk => hf k (hall k hk)⟩
    rcases hS with rfl | hS
    · exact b.isLt
    · obtain ⟨c, _, rfl⟩ := List.mem_map.mp hS
      exact c.isLt

/-- The same, of a search along the second of four axes. -/
theorem search_at {n0 n2 n3 : ℕ} {t u : Shape} (h : (⟨4, ![n0, 19, n2, n3]⟩ : Shape).ReducesTo [1] t) (hu : 0 < u.numel)
    (p : (⟨4, ![n0, 19, n2, n3]⟩ : Shape).Idx → Ideal .f32) (e : u.Idx → Ideal .f32) (z : u.Idx → BitVec 32) (j : t.Idx)
    (he : e (Shape.Idx.first hu) = (⊥ : EReal)) (hz : z (Shape.Idx.first hu) = 0#32) (v : ℕ → EReal) (hv : ∀ k, v k ≠ ⊥)
    (hp : ∀ k : Fin 19, p (over h j k) = v k.val) :
    ∃ n, (Host.argReduce (reducer_argmax_f32_i32 (F := Ideal)) p (iotaInDim (⟨4, ![n0, 19, n2, n3]⟩ : Shape) 32 1) e z h hu j).2
      = BitVec.ofNat 32 n ∧ First (fun k => k < 19) v n := by
  obtain ⟨L, hL, hl⟩ := fiber_list h p (iotaInDim (⟨4, ![n0, 19, n2, n3]⟩ : Shape) 32 1) j
  obtain ⟨n, hn, hf⟩ := search_first v hv L hL
  refine ⟨n, ?_, hf⟩
  rw [← hn, Ideal.argReduce_eq_reduce2, Host.reduce2_eq_foldl_fiber, hl]
  have hpair : (fun k : Fin 19 => (p (over h j k), iotaInDim (⟨4, ![n0, 19, n2, n3]⟩ : Shape) 32 1 (over h j k))) = fun k => pair v k.val :=
    funext fun k => congrArg₂ Prod.mk (hp k) rfl
  rw [hpair, he, hz]

/-- The search's start. -/
theorem start_low : (constant (F := Ideal) S_ .f32 0xFF800000#32 (Shape.Idx.first h_S_) : EReal) = ⊥ :=
  (congrArg (constant (F := Ideal) S_ .f32 0xFF800000#32) (funext fun a => a.elim0)).trans low_eq

theorem start_zero : constantI S_ 32 0#32 (Shape.Idx.first h_S_) = 0#32 := rfl

theorem pick_fun (p : S8x19x512x512.Idx → Ideal .f32) : pick (F := Ideal) p = fun j =>
    (Host.argReduce reducer_argmax_f32_i32 p (iotaInDim S8x19x512x512 32 1) (constant S_ .f32 0xFF800000#32)
      (constantI S_ 32 0#32) reducesTo_S8x19x512x512_S8x512x512_d1 h_S_ j).2 := rfl

/-- The class that the search picks at a pixel is the first of the greatest there. -/
theorem pick_first (p : S8x19x512x512.Idx → Ideal .f32) (i : Fin 8) (r c : Fin 512) (v : ℕ → EReal) (hv : ∀ k, v k ≠ ⊥)
    (hp : ∀ k : Fin 19, p (ix4 i k r c) = v k.val) :
    ∃ n, pick (F := Ideal) p (ix3 i r c) = BitVec.ofNat 32 n ∧ First (fun k => k < 19) v n := by
  obtain ⟨n, hn, hf⟩ := search_at reducesTo_S8x19x512x512_S8x512x512_d1 h_S_ p _ _ (ix3 i r c) start_low start_zero v hv hp
  exact ⟨n, (congrFun (pick_fun p) (ix3 i r c)).trans hn, hf⟩

/-- The class picked from the softmax of real logits is the class that the scan finds. -/
theorem pick_scan (x : S8x19x512x512.Idx → Ideal .f32) (hx : ∀ j, x j ≠ (⊤ : EReal) ∧ x j ≠ (⊥ : EReal)) (i : Fin 8) (r c : Fin 512)
    (z : ℕ → Ideal .f32) (hz : ∀ k : Fin 19, z k.val = x (ix4 i k r c)) :
    pick (F := Ideal) (prob (F := Ideal) x) (ix3 i r c) = LabelBody.scan (F := Ideal) z 18 := by
  obtain ⟨p, hp, ho⟩ := prob_order x i r c hx
  obtain ⟨n, hn, hf⟩ := pick_first (prob (F := Ideal) x) i r c (fun k => if h : k < 19 then ((p ⟨k, h⟩ : ℝ) : EReal) else 0)
    (fun k => by split <;> simp) fun k => by rw [dif_pos k.isLt]; exact hp k
  obtain ⟨n', hn', _, hf'⟩ := scan_first z 18
  rw [hn, hn']
  refine congrArg (BitVec.ofNat 32) (First.unique (v := z) (S := fun k => k ≤ 18) ⟨?_, fun k hk => ?_⟩ hf')
  · exact Nat.le_of_lt_succ hf.1
  · have hn19 : n < 19 := hf.1
    have hk19 : k < 19 := Nat.lt_succ_of_le hk
    have h := hf.2 k hk19
    simp only [dif_pos hn19, dif_pos hk19, EReal.coe_le_coe_iff, EReal.coe_eq_coe_iff] at h
    have hzn := hz ⟨n, hn19⟩
    have hzk := hz ⟨k, hk19⟩
    dsimp only at hzn hzk
    rw [hzn, hzk]
    refine ⟨(ho _ _).mp h.1, fun e => h.2 (le_antisymm h.1 ((ho _ _).mpr (le_of_eq e.symm)))⟩

end Cert.Proof.Pick
-- ==== Proof.Value.lean ====
module

public import proofs.«01_k».proof.Defs
public import proofs.«01_k».proof.Proof.Frames
public import proofs.«01_k».proof.Proof.Admissible
public import proofs.«01_k».proof.Proof.RefTable
public import proofs.«01_k».proof.Proof.Pick

/-! The value claim: over the extended reals the kernel's two scores are the reference's. -/

@[expose] public section

noncomputable section

namespace Cert.Proof.Value

open Cert.KernelIdeal Cert.KernelIdeal.Gen
open Idealize.ShloMosaic Idealize.SL.Sem
open Cert.Proof.Main Cert.Proof.Pieces Cert.Proof.Calls Cert.Proof.Labels Cert.Proof.Count Cert.Proof.Scores
open Cert.Proof.RefRun Cert.Proof.RefScores Cert.Proof.RefCell

variable {x : S8x19x512x512.Idx → Ideal .f32} {mk : S8x512x512.Idx → BitVec 32}

/-- Every logit is a real number. -/
abbrev Real (x : S8x19x512x512.Idx → Ideal .f32) : Prop := ∀ j, x j ≠ (⊤ : EReal) ∧ x j ≠ (⊥ : EReal)

theorem logit_ix (i n r c : ℕ) (hi : i < 8) (hn : n < 19) (hr : r < 512) (hc : c < 512) :
    atLogit i n r c hi hr hc = ix4 ⟨i, hi⟩ ⟨n, hn⟩ ⟨r, hr⟩ ⟨c, hc⟩ := by
  funext a
  match a with
  | 0 => rfl
  | 1 => exact Fin.ext (Nat.mod_eq_of_lt hn)
  | 2 => rfl
  | 3 => rfl

theorem mask_ix (i r c : ℕ) (hi : i < 8) (hr : r < 512) (hc : c < 512) :
    atMask i r c hi hr hc = ix3 ⟨i, hi⟩ ⟨r, hr⟩ ⟨c, hc⟩ := by
  funext a
  match a with
  | 0 => rfl
  | 1 => rfl
  | 2 => rfl

/-- The class picked at a pixel is the one the kernel's scan finds there. -/
theorem pick_at (hx : Real x) (i r c : ℕ) (hi : i < 8) (hr : r < 512) (hc : c < 512) :
    pick (F := Ideal) (prob (F := Ideal) x) (ix3 ⟨i, hi⟩ ⟨r, hr⟩ ⟨c, hc⟩)
      = LabelBody.scan (F := Ideal) (fun n => x (atLogit i n r c hi hr hc)) 18 :=
  Pick.pick_scan x hx ⟨i, hi⟩ ⟨r, hr⟩ ⟨c, hc⟩ _ fun k => congrArg x (logit_ix i k.val r c hi k.isLt hr hc)

theorem pick_lt (hx : Real x) (j : S8x512x512.Idx) : (pick (F := Ideal) (prob (F := Ideal) x) j).toNat < 19 := by
  have key : ∀ (i : Fin 8) (r c : Fin 512), (pick (F := Ideal) (prob (F := Ideal) x) (ix3 i r c)).toNat < 19 := fun i r c => by
    rw [pick_at hx i.val r.val c.val i.isLt r.isLt c.isLt]
    exact Nat.lt_succ_of_le (scan_le _ 18 (by decide))
  have hj : ix3 (n0 := 8) (n1 := 512) (n2 := 512) (j 0) (j 1) (j 2) = j := by
    funext a
    match a with
    | 0 => rfl
    | 1 => rfl
    | 2 => rfl
  exact hj ▸ key (j 0) (j 1) (j 2)

/-- Both programs put a pixel in one and the same cell. -/
theorem cell_same (hx : Real x) (P : ℕ) :
    (mk (pixel P)).toNat * 19 + (pick (F := Ideal) (prob (F := Ideal) x) (pixel P)).toNat = cellAt x mk P := by
  unfold cellAt pixel
  rw [pick_at hx, mask_ix]

/-- The reference's table is the table of the kernel's counts. -/
theorem tables_eq (h : InRange mk) (hx : Real x) :
    cells (tableOf (F := Ideal) x mk)
      = sumsOf (counts (F := Ideal) (labels4 0 x mk)) (counts (F := Ideal) (labels4 1 x mk)) := by
  funext a b
  refine (RefTable.table_eq h (pick_lt hx) a b).trans ?_
  rw [sums_eq h a b]
  exact congrArg (fun f => tally f (19 * a.val + b.val) 2097152) (funext fun P => cell_same hx P)

theorem scalar_of {v : S1x1.Idx → EReal} {w : EReal} (h : v (ix2 0 0) = w) :
    shapeCast S_ v shapeCasts_S1x1_S_ = fun _ => w := by
  funext j
  refine Eq.trans (congrArg v (funext fun a => ?_)) h
  match a with
  | 0 => exact Subsingleton.elim (α := Fin 1) _ _
  | 1 => exact Subsingleton.elim (α := Fin 1) _ _

section Runs

variable (m : (ℓ : Loc nD τ sig) → Buf (Elt Ideal) ℓ) (d : Dev nD)

/-- The kernel's first score is the reference's. -/
theorem first_eq (h : InRange (m (d, mk'))) (hx : Real (m (d, x'))) :
    res1 (F := Ideal) m d = mean (F := Ideal) (iouOf (tableOf (m (d, x')) (m (d, mk')))) := by
  refine (scalar_of (score1_eq _ _)).trans (Eq.trans ?_ (mean_eq _).symm)
  exact congrArg (fun t : Scores.Table => fun _ : S_.Idx => meanScore t) (tables_eq h hx).symm

/-- The kernel's second score is the reference's. -/
theorem second_eq (h : InRange (m (d, mk'))) (hx : Real (m (d, x'))) :
    res2 (F := Ideal) m d
      = weighted (F := Ideal) (tableOf (m (d, x')) (m (d, mk'))) (iouOf (tableOf (m (d, x')) (m (d, mk')))) := by
  refine (scalar_of (score2_eq _ _)).trans (Eq.trans ?_ (weighted_eq _).symm)
  exact congrArg (fun t : Scores.Table => fun _ : S_.Idx => weightedScore t) (tables_eq h hx).symm

end Runs

/-- The value claim: from the same arguments both programs end with the same two scores. -/
theorem values : Cert.algebraic_KernelIdeal_ReferenceIdeal_pre_admissible := fun m ρ m' ρ' hpre hargs =>
  ⟨fun d => res1 (F := Ideal) m d, fun d => res2 (F := Ideal) m d,
    (θ_run Cert.KernelIdeal.defs _ _).mono
      (fun _ h c => ⟨(h.1 c).2.2.1, (h.1 c).2.2.2, (h.1 c).1, (h.1 c).2.1⟩)
      (run_main (F := Ideal) m ρ fun k d => labels_ok (Admissible.in_range (hpre d)) k),
    (θ_run Cert.ReferenceIdeal.defs _ _).mono
      (fun r h c => by
        obtain ⟨h1, h2, h3, h4⟩ := h c
        rw [(hargs c).1, (hargs c).2] at h1 h2
        exact ⟨h1.trans (first_eq m c (Admissible.in_range (hpre c)) (Admissible.real_logits (hpre c))).symm,
          h2.trans (second_eq m c (Admissible.in_range (hpre c)) (Admissible.real_logits (hpre c))).symm, h3, h4⟩)
      (RefRun.run_ref (F := Ideal) m' ρ')⟩

/-- The idealization's frame under the value claim's precondition. -/
theorem frame_ideal_real : Cert.quiescent_KernelIdeal_pre_admissible := fun m ρ hpre =>
  (θ_run Cert.KernelIdeal.defs _ _).mono (fun _ h => ⟨fun c => ⟨(h.1 c).1, (h.1 c).2.1⟩, h.2⟩)
    (run_main (F := Ideal) m ρ fun k d => labels_ok (Admissible.in_range (hpre d)) k)

/-- The reference's frame under the value claim's precondition. -/
theorem frame_ref_real : Cert.quiescent_ReferenceIdeal_pre_admissible := fun m ρ _ => Frames.frame_ref m ρ trivial

end Cert.Proof.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_classes
public import proofs.«01_k».proof.Proof.Gen.Pre_admissible
public import proofs.«01_k».proof.Proof.Frames
public import proofs.«01_k».proof.Proof.Value

@[expose] public section

noncomputable section

namespace Cert.Proof

/-- The kernel, its idealization and the reference run to their ends, keep their arguments and leave every counter at
zero; over the extended reals the kernel's two scores are the reference's. -/
theorem claim : Cert.Claim :=
  ⟨Cert.Kernel.Gen.facts, Cert.KernelIdeal.Gen.facts, Cert.ReferenceIdeal.Gen.facts, Cert.Pre_classes.Gen.facts,
    Cert.Pre_admissible.Gen.facts, Frames.frame_bits, Frames.frame_ideal, Value.frame_ideal_real, Frames.frame_ref,
    Value.frame_ref_real, trivial, Value.values⟩

end Cert.Proof

end
